-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_words [hPre_plain_words : Cert.Pre_plain_words.Facts] (m : (ℓ : Loc Cert.KernelIdeal.nD Cert.KernelIdeal.τ Cert.KernelIdeal.sig) → Buf (Elt Ideal) ℓ) : Prop :=
  ∀ c : Dev Cert.KernelIdeal.nD,
    (Cert.Pre_plain_words.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_words [hPre_plain_words : Cert.Pre_plain_words.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_words.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_plain_words [hKernelIdeal : Cert.KernelIdeal.Facts] [hPre_plain_words : Cert.Pre_plain_words.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_words m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_plain_words [hReferenceIdeal : Cert.ReferenceIdeal.Facts] [hPre_plain_words : Cert.Pre_plain_words.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_words m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_plain_words [hKernelIdeal : Cert.KernelIdeal.Facts] [hReferenceIdeal : Cert.ReferenceIdeal.Facts] [hPre_plain_words : Cert.Pre_plain_words.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_words m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_plain_words : Cert.Pre_plain_words.Facts),
    quiescent_Kernel (hKernel := hKernel)
    ∧ quiescent_KernelIdeal (hKernelIdeal := hKernelIdeal)
    ∧ quiescent_KernelIdeal_pre_plain_words (hKernelIdeal := hKernelIdeal) (hPre_plain_words := hPre_plain_words)
    ∧ quiescent_ReferenceIdeal (hReferenceIdeal := hReferenceIdeal)
    ∧ quiescent_ReferenceIdeal_pre_plain_words (hReferenceIdeal := hReferenceIdeal) (hPre_plain_words := hPre_plain_words)
    ∧ preserves_Kernel_KernelIdeal
    ∧ algebraic_KernelIdeal_ReferenceIdeal_pre_plain_words (hKernelIdeal := hKernelIdeal) (hReferenceIdeal := hReferenceIdeal) (hPre_plain_words := hPre_plain_words)
-- ==== Pre_plain_words.lean ====
abbrev S32x1000000 : Shape := ⟨2, ![32, 1000000]⟩
abbrev S_ : Shape := ⟨0, ![]⟩

class Facts : Prop where
  bcast_S_S32x1000000 : S_.BroadcastsInDim S32x1000000 (![] : Fin 0 → Fin S32x1000000.rank)
  reducesTo_S32x1000000_S_d0_1 : S32x1000000.ReducesTo [0, 1] S_
  h_S_ : 0 < S_.numel

variable [Facts]

def fn {F : FTy → Type} [FloatOps F] (main_arg0 : IVec S32x1000000 32) : IVec S_ 1 :=
  let main_c : IVec S_ 32 := constantI S_ 32 2139095040#32
  let main_v0 : IVec S32x1000000 32 := broadcastInDim S32x1000000 ![] bcast_S_S32x1000000 main_c
  let main_v1 : IVec S32x1000000 1 := cmpi .eq main_arg0 main_v0
  let main_c_0 : IVec S_ 32 := constantI S_ 32 4294967040#32
  let main_v2 : IVec S32x1000000 32 := broadcastInDim S32x1000000 ![] bcast_S_S32x1000000 main_c_0
  let main_v3 : IVec S32x1000000 32 := andi main_arg0 main_v2
  let main_c_1 : IVec S_ 32 := constantI S_ 32 2147483648#32
  let main_v4 : IVec S32x1000000 32 := broadcastInDim S32x1000000 ![] bcast_S_S32x1000000 main_c_1
  let main_v5 : IVec S32x1000000 1 := cmpi .eq main_v3 main_v4
  let main_v6 : IVec S32x1000000 1 := noti main_v1
  let main_v7 : IVec S32x1000000 1 := noti main_v5
  let main_v8 : IVec S32x1000000 1 := andi main_v6 main_v7
  let main_c_2 : IVec S_ 1 := constantI S_ 1 1#1
  let main_v9 : IVec S_ 1 := (fun x v => Host.reduce IntOp.andi x v reducesTo_S32x1000000_S_d0_1 h_S_) main_v8 main_c_2
  main_v9
-- ==== Kernel.lean ====
abbrev S32x1000000 : Shape := ⟨2, ![32, 1000000]⟩
abbrev S32000000 : Shape := ⟨1, ![32000000]⟩
abbrev S512 : Shape := ⟨1, ![512]⟩
abbrev S40000 : Shape := ⟨1, ![40000]⟩
abbrev S65536 : Shape := ⟨1, ![65536]⟩
abbrev S16 : Shape := ⟨1, ![16]⟩
abbrev S_ : Shape := ⟨0, ![]⟩
abbrev S20000 : Shape := ⟨1, ![20000]⟩
abbrev S1 : Shape := ⟨1, ![1]⟩
abbrev S32x1x16 : Shape := ⟨3, ![32, 1, 16]⟩
abbrev S32x1000448 : Shape := ⟨2, ![32, 1000448]⟩
abbrev S32x7816x128 : Shape := ⟨3, ![32, 7816, 128]⟩
abbrev S1x7816x128 : Shape := ⟨3, ![1, 7816, 128]⟩
abbrev S1x1x16 : Shape := ⟨3, ![1, 1, 16]⟩
abbrev S7816x128 : Shape := ⟨2, ![7816, 128]⟩
abbrev S1x1x1 : Shape := ⟨3, ![1, 1, 1]⟩

abbrev nBuf : Table → Nat
  | .hbm => 12
  | .local .tc .vmem => 8
  | .local .scVector .vmem => 4
  | _ => 0

abbrev bufTy : (tb : Table) → Fin (nBuf tb) → BufTy
  | .hbm, ⟨0, _⟩ => ⟨S32x1000000, .i32⟩
  | .hbm, ⟨1, _⟩ => ⟨S32000000, .i32⟩
  | .hbm, ⟨2, _⟩ => ⟨S512, .i32⟩
  | .hbm, ⟨3, _⟩ => ⟨S512, .f32⟩
  | .hbm, ⟨4, _⟩ => ⟨S32x1x16, .i32⟩
  | .hbm, ⟨5, _⟩ => ⟨S32x1x16, .f32⟩
  | .hbm, ⟨6, _⟩ => ⟨S_, .i32⟩
  | .hbm, ⟨7, _⟩ => ⟨S32x1000448, .i32⟩
  | .hbm, ⟨8, _⟩ => ⟨S32x7816x128, .i32⟩
  | .hbm, ⟨9, _⟩ => ⟨S32x7816x128, .f32⟩
  | .hbm, ⟨10, _⟩ => ⟨S32x1000448, .f32⟩
  | .hbm, ⟨11, _⟩ => ⟨S32x1000000, .f32⟩
  | .local .tc .vmem, ⟨0, _⟩ => ⟨S1x7816x128, .i32⟩
  | .local .tc .vmem, ⟨1, _⟩ => ⟨S1x7816x128, .i32⟩
  | .local .tc .vmem, ⟨2, _⟩ => ⟨S1x1x16, .i32⟩
  | .local .tc .vmem, ⟨3, _⟩ => ⟨S1x1x16, .i32⟩
  | .local .tc .vmem, ⟨4, _⟩ => ⟨S1x1x16, .f32⟩
  | .local .tc .vmem, ⟨5, _⟩ => ⟨S1x1x16, .f32⟩
  | .local .tc .vmem, ⟨6, _⟩ => ⟨S1x7816x128, .f32⟩
  | .local .tc .vmem, ⟨7, _⟩ => ⟨S1x7816x128, .f32⟩
  | .local .scVector .vmem, ⟨0, _⟩ => ⟨S40000, .i32⟩
  | .local .scVector .vmem, ⟨1, _⟩ => ⟨S65536, .f32⟩
  | .local .scVector .vmem, ⟨2, _⟩ => ⟨S16, .i32⟩
  | .local .scVector .vmem, ⟨3, _⟩ => ⟨S16, .f32⟩
  | _, _ => ⟨S32x1000000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v0_scv : Ref sig .scVector := ⟨.hbm, 1, rfl⟩
abbrev main_v1_0_scv : Ref sig .scVector := ⟨.hbm, 2, rfl⟩
abbrev main_v1_1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c4096_i32 : BitVec 32 := 4096#32
  let v5 : BitVec 32 := Scalar.addi c0_i32 c4096_i32
  let c1_i32 : BitVec 32 := 1#32
  ⟨c0_i32, v5, c1_i32⟩
def k0_off1 (k0_t1 : Fin k0_t1_loop.trips) : Fin 1 → Nat :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v81 : BitVec 32 := Scalar.muli arg11 c1_i32_33
  let v82 : BitVec 32 := Scalar.addi c0_i32_34 v81
  let c16_i32_35 : BitVec 32 := 16#32
  let v83 : BitVec 32 := Scalar.muli v82 c16_i32_35
  let v84 : Index := Scalar.indexCast v83
  ![v84.toNat]
def k0_off2 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000000_i32 : BitVec 32 := 1000000#32
  let v4 : BitVec 32 := Scalar.muli v1 c1000000_i32
  let c0_i32_1 : BitVec 32 := 0#32
  let v6 : BitVec 32 := Scalar.addi v4 c0_i32_1
  ![v6.toNat]
@[reducible] def k0_t2_loop : Scf.Loop 32 :=
  let c0_i32_4 : BitVec 32 := 0#32
  let c25_i32 : BitVec 32 := 25#32
  let v11 : BitVec 32 := Scalar.addi c0_i32_4 c25_i32
  let c1_i32_5 : BitVec 32 := 1#32
  ⟨c0_i32_4, v11, c1_i32_5⟩
def k0_off3 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000000_i32 : BitVec 32 := 1000000#32
  let v4 : BitVec 32 := Scalar.muli v1 c1000000_i32
  let c2_i32 : BitVec 32 := 2#32
  let c0_i32_4 : BitVec 32 := 0#32
  let c1_i32_5 : BitVec 32 := 1#32
  let arg11 : BitVec 32 := Scf.iv c0_i32_4 c1_i32_5 k0_t2
  let v81 : BitVec 32 := Scalar.muli c2_i32 arg11
  let c20000_i32 : BitVec 32 := 20000#32
  let v82 : BitVec 32 := Scalar.muli v81 c20000_i32
  let v83 : BitVec 32 := Scalar.addi v4 v82
  ![v83.toNat]
def k0_off4 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000000_i32 : BitVec 32 := 1000000#32
  let v4 : BitVec 32 := Scalar.muli v1 c1000000_i32
  let c2_i32 : BitVec 32 := 2#32
  let c0_i32_4 : BitVec 32 := 0#32
  let c1_i32_5 : BitVec 32 := 1#32
  let arg11 : BitVec 32 := Scf.iv c0_i32_4 c1_i32_5 k0_t2
  let v81 : BitVec 32 := Scalar.muli c2_i32 arg11
  let c1_i32_35 : BitVec 32 := 1#32
  let v88 : BitVec 32 := Scalar.addi v81 c1_i32_35
  let c20000_i32_36 : BitVec 32 := 20000#32
  let v89 : BitVec 32 := Scalar.muli v88 c20000_i32_36
  let v90 : BitVec 32 := Scalar.addi v4 v89
  ![v90.toNat]
@[reducible] def k0_t3_loop : Scf.Loop 32 :=
  let c0_i32_39 : BitVec 32 := 0#32
  let c1250_i32 : BitVec 32 := 1250#32
  let v95 : BitVec 32 := Scalar.addi c0_i32_39 c1250_i32
  let c1_i32_40 : BitVec 32 := 1#32
  ⟨c0_i32_39, v95, c1_i32_40⟩
def k0_off5 (k0_t3 : Fin k0_t3_loop.trips) : Fin 1 → Nat :=
  let c0_i32_55 : BitVec 32 := 0#32
  let c0_i32_53 : BitVec 32 := 0#32
  let c0_i32_39 : BitVec 32 := 0#32
  let c1_i32_40 : BitVec 32 := 1#32
  let arg13 : BitVec 32 := Scf.iv c0_i32_39 c1_i32_40 k0_t3
  let c1_i32_52 : BitVec 32 := 1#32
  let v110 : BitVec 32 := Scalar.muli arg13 c1_i32_52
  let v111 : BitVec 32 := Scalar.addi c0_i32_53 v110
  let c16_i32_54 : BitVec 32 := 16#32
  let v112 : BitVec 32 := Scalar.muli v111 c16_i32_54
  let v113 : BitVec 32 := Scalar.addi c0_i32_55 v112
  let v114 : Index := Scalar.indexCast v113
  ![v114.toNat]

def k0_chk1 (v128 : IVec S16 32) : Prop :=
  (∀ a x, ((![v128] : Fin 1 → IVec S16 32) a x).toNat < S65536.size a)
theorem k0_idx1_inb : ∀ (v128 : IVec S16 32) (k0_hw1 : k0_chk1 v128), ∀ a x, ((![v128] : Fin 1 → IVec S16 32) a x).toNat < S65536.size a := fun v128 k0_hw1 => k0_hw1
def k0_cond1 (k0_t2 : Fin k0_t2_loop.trips) : BitVec 1 :=
  let c2_i32 : BitVec 32 := 2#32
  let c0_i32_4 : BitVec 32 := 0#32
  let c1_i32_5 : BitVec 32 := 1#32
  let arg11 : BitVec 32 := Scf.iv c0_i32_4 c1_i32_5 k0_t2
  let v81 : BitVec 32 := Scalar.muli c2_i32 arg11
  let c2_i32_46 : BitVec 32 := 2#32
  let v104 : BitVec 32 := Scalar.addi v81 c2_i32_46
  let c50_i32 : BitVec 32 := 50#32
  let v105 : BitVec 1 := Scalar.cmpi .slt v104 c50_i32
  let v106 : BitVec 32 := Scalar.extui v105
  let c0_i32_47 : BitVec 32 := 0#32
  let v107 : BitVec 1 := Scalar.cmpi .ne v106 c0_i32_47
  v107

def k0_off6 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000000_i32 : BitVec 32 := 1000000#32
  let v4 : BitVec 32 := Scalar.muli v1 c1000000_i32
  let c2_i32 : BitVec 32 := 2#32
  let c0_i32_4 : BitVec 32 := 0#32
  let c1_i32_5 : BitVec 32 := 1#32
  let arg11 : BitVec 32 := Scf.iv c0_i32_4 c1_i32_5 k0_t2
  let v81 : BitVec 32 := Scalar.muli c2_i32 arg11
  let c2_i32_52 : BitVec 32 := 2#32
  let v110 : BitVec 32 := Scalar.addi v81 c2_i32_52
  let c20000_i32_53 : BitVec 32 := 20000#32
  let v111 : BitVec 32 := Scalar.muli v110 c20000_i32_53
  let v112 : BitVec 32 := Scalar.addi v4 v111
  ![v112.toNat]
@[reducible] def k0_t4_loop : Scf.Loop 32 :=
  let c0_i32_48 : BitVec 32 := 0#32
  let c1250_i32_49 : BitVec 32 := 1250#32
  let v108 : BitVec 32 := Scalar.addi c0_i32_48 c1250_i32_49
  let c1_i32_50 : BitVec 32 := 1#32
  ⟨c0_i32_48, v108, c1_i32_50⟩
def k0_off7 (k0_t4 : Fin k0_t4_loop.trips) : Fin 1 → Nat :=
  let c20000_i32_55 : BitVec 32 := 20000#32
  let c0_i32_53 : BitVec 32 := 0#32
  let c0_i32_48 : BitVec 32 := 0#32
  let c1_i32_50 : BitVec 32 := 1#32
  let arg13 : BitVec 32 := Scf.iv c0_i32_48 c1_i32_50 k0_t4
  let c1_i32_52 : BitVec 32 := 1#32
  let v110 : BitVec 32 := Scalar.muli arg13 c1_i32_52
  let v111 : BitVec 32 := Scalar.addi c0_i32_53 v110
  let c16_i32_54 : BitVec 32 := 16#32
  let v112 : BitVec 32 := Scalar.muli v111 c16_i32_54
  let v113 : BitVec 32 := Scalar.addi c20000_i32_55 v112
  let v114 : Index := Scalar.indexCast v113
  ![v114.toNat]

def k0_chk2 (v128 : IVec S16 32) : Prop :=
  (∀ a x, ((![v128] : Fin 1 → IVec S16 32) a x).toNat < S65536.size a)
theorem k0_idx2_inb : ∀ (v128 : IVec S16 32) (k0_hw2 : k0_chk2 v128), ∀ a x, ((![v128] : Fin 1 → IVec S16 32) a x).toNat < S65536.size a := fun v128 k0_hw2 => k0_hw2
@[reducible] def k0_t5_loop : Scf.Loop 32 :=
  let c0_i32_12 : BitVec 32 := 0#32
  let c4096_i32_13 : BitVec 32 := 4096#32
  let v61 : BitVec 32 := Scalar.addi c0_i32_12 c4096_i32_13
  let c1_i32_14 : BitVec 32 := 1#32
  ⟨c0_i32_12, v61, c1_i32_14⟩
def k0_off8 (k0_t5 : Fin k0_t5_loop.trips) : Fin 1 → Nat :=
  let c4095_i32 : BitVec 32 := 4095#32
  let c0_i32_34 : BitVec 32 := 0#32
  let c0_i32_12 : BitVec 32 := 0#32
  let c1_i32_14 : BitVec 32 := 1#32
  let arg11 : BitVec 32 := Scf.iv c0_i32_12 c1_i32_14 k0_t5
  let c1_i32_33 : BitVec 32 := 1#32
  let v81 : BitVec 32 := Scalar.muli arg11 c1_i32_33
  let v82 : BitVec 32 := Scalar.addi c0_i32_34 v81
  let v83 : BitVec 32 := Scalar.subi c4095_i32 v82
  let c16_i32_35 : BitVec 32 := 16#32
  let v84 : BitVec 32 := Scalar.muli v83 c16_i32_35
  let v85 : Index := Scalar.indexCast v84
  ![v85.toNat]
@[reducible] def k0_t6_loop : Scf.Loop 32 :=
  let c0_i32_20 : BitVec 32 := 0#32
  let c25_i32_21 : BitVec 32 := 25#32
  let v69 : BitVec 32 := Scalar.addi c0_i32_20 c25_i32_21
  let c1_i32_22 : BitVec 32 := 1#32
  ⟨c0_i32_20, v69, c1_i32_22⟩
def k0_off9 (i : grid0.Coords) (k0_t6 : Fin k0_t6_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000000_i32 : BitVec 32 := 1000000#32
  let v4 : BitVec 32 := Scalar.muli v1 c1000000_i32
  let c2_i32 : BitVec 32 := 2#32
  let c0_i32_20 : BitVec 32 := 0#32
  let c1_i32_22 : BitVec 32 := 1#32
  let arg11 : BitVec 32 := Scf.iv c0_i32_20 c1_i32_22 k0_t6
  let v81 : BitVec 32 := Scalar.muli c2_i32 arg11
  let c20000_i32 : BitVec 32 := 20000#32
  let v82 : BitVec 32 := Scalar.muli v81 c20000_i32
  let v83 : BitVec 32 := Scalar.addi v4 v82
  ![v83.toNat]
def k0_off10 (i : grid0.Coords) (k0_t6 : Fin k0_t6_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000000_i32 : BitVec 32 := 1000000#32
  let v4 : BitVec 32 := Scalar.muli v1 c1000000_i32
  let c2_i32 : BitVec 32 := 2#32
  let c0_i32_20 : BitVec 32 := 0#32
  let c1_i32_22 : BitVec 32 := 1#32
  let arg11 : BitVec 32 := Scf.iv c0_i32_20 c1_i32_22 k0_t6
  let v81 : BitVec 32 := Scalar.muli c2_i32 arg11
  let c1_i32_35 : BitVec 32 := 1#32
  let v88 : BitVec 32 := Scalar.addi v81 c1_i32_35
  let c20000_i32_36 : BitVec 32 := 20000#32
  let v89 : BitVec 32 := Scalar.muli v88 c20000_i32_36
  let v90 : BitVec 32 := Scalar.addi v4 v89
  ![v90.toNat]
@[reducible] def k0_t7_loop : Scf.Loop 32 :=
  let c0_i32_39 : BitVec 32 := 0#32
  let c1250_i32 : BitVec 32 := 1250#32
  let v95 : BitVec 32 := Scalar.addi c0_i32_39 c1250_i32
  let c1_i32_40 : BitVec 32 := 1#32
  ⟨c0_i32_39, v95, c1_i32_40⟩
def k0_off11 (k0_t7 : Fin k0_t7_loop.trips) : Fin 1 → Nat :=
  let c0_i32_55 : BitVec 32 := 0#32
  let c0_i32_53 : BitVec 32 := 0#32
  let c0_i32_39 : BitVec 32 := 0#32
  let c1_i32_40 : BitVec 32 := 1#32
  let arg12 : BitVec 32 := Scf.iv c0_i32_39 c1_i32_40 k0_t7
  let c1_i32_52 : BitVec 32 := 1#32
  let v108 : BitVec 32 := Scalar.muli arg12 c1_i32_52
  let v109 : BitVec 32 := Scalar.addi c0_i32_53 v108
  let c16_i32_54 : BitVec 32 := 16#32
  let v110 : BitVec 32 := Scalar.muli v109 c16_i32_54
  let v111 : BitVec 32 := Scalar.addi c0_i32_55 v110
  let v112 : Index := Scalar.indexCast v111
  ![v112.toNat]

def k0_chk3 (v132 : IVec S16 32) : Prop :=
  (∀ a x, ((![v132] : Fin 1 → IVec S16 32) a x).toNat < S65536.size a)
theorem k0_idx3_inb : ∀ (v132 : IVec S16 32) (k0_hw3 : k0_chk3 v132), ∀ a x, ((![v132] : Fin 1 → IVec S16 32) a x).toNat < S65536.size a := fun v132 k0_hw3 => k0_hw3
def k0_cond2 (k0_t6 : Fin k0_t6_loop.trips) : BitVec 1 :=
  let c2_i32 : BitVec 32 := 2#32
  let c0_i32_20 : BitVec 32 := 0#32
  let c1_i32_22 : BitVec 32 := 1#32
  let arg11 : BitVec 32 := Scf.iv c0_i32_20 c1_i32_22 k0_t6
  let v81 : BitVec 32 := Scalar.muli c2_i32 arg11
  let c2_i32_46 : BitVec 32 := 2#32
  let v103 : BitVec 32 := Scalar.addi v81 c2_i32_46
  let c50_i32 : BitVec 32 := 50#32
  let v104 : BitVec 1 := Scalar.cmpi .slt v103 c50_i32
  let v105 : BitVec 32 := Scalar.extui v104
  let c0_i32_47 : BitVec 32 := 0#32
  let v106 : BitVec 1 := Scalar.cmpi .ne v105 c0_i32_47
  v106

def k0_off12 (i : grid0.Coords) (k0_t6 : Fin k0_t6_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000000_i32 : BitVec 32 := 1000000#32
  let v4 : BitVec 32 := Scalar.muli v1 c1000000_i32
  let c2_i32 : BitVec 32 := 2#32
  let c0_i32_20 : BitVec 32 := 0#32
  let c1_i32_22 : BitVec 32 := 1#32
  let arg11 : BitVec 32 := Scf.iv c0_i32_20 c1_i32_22 k0_t6
  let v81 : BitVec 32 := Scalar.muli c2_i32 arg11
  let c2_i32_52 : BitVec 32 := 2#32
  let v108 : BitVec 32 := Scalar.addi v81 c2_i32_52
  let c20000_i32_53 : BitVec 32 := 20000#32
  let v109 : BitVec 32 := Scalar.muli v108 c20000_i32_53
  let v110 : BitVec 32 := Scalar.addi v4 v109
  ![v110.toNat]
@[reducible] def k0_t8_loop : Scf.Loop 32 :=
  let c0_i32_48 : BitVec 32 := 0#32
  let c1250_i32_49 : BitVec 32 := 1250#32
  let v107 : BitVec 32 := Scalar.addi c0_i32_48 c1250_i32_49
  let c1_i32_50 : BitVec 32 := 1#32
  ⟨c0_i32_48, v107, c1_i32_50⟩
def k0_off13 (k0_t8 : Fin k0_t8_loop.trips) : Fin 1 → Nat :=
  let c20000_i32_55 : BitVec 32 := 20000#32
  let c0_i32_53 : BitVec 32 := 0#32
  let c0_i32_48 : BitVec 32 := 0#32
  let c1_i32_50 : BitVec 32 := 1#32
  let arg12 : BitVec 32 := Scf.iv c0_i32_48 c1_i32_50 k0_t8
  let c1_i32_52 : BitVec 32 := 1#32
  let v108 : BitVec 32 := Scalar.muli arg12 c1_i32_52
  let v109 : BitVec 32 := Scalar.addi c0_i32_53 v108
  let c16_i32_54 : BitVec 32 := 16#32
  let v110 : BitVec 32 := Scalar.muli v109 c16_i32_54
  let v111 : BitVec 32 := Scalar.addi c20000_i32_55 v110
  let v112 : Index := Scalar.indexCast v111
  ![v112.toNat]

def k0_chk4 (v132 : IVec S16 32) : Prop :=
  (∀ a x, ((![v132] : Fin 1 → IVec S16 32) a x).toNat < S65536.size a)
theorem k0_idx4_inb : ∀ (v132 : IVec S16 32) (k0_hw4 : k0_chk4 v132), ∀ a x, ((![v132] : Fin 1 → IVec S16 32) a x).toNat < S65536.size a := fun v132 k0_hw4 => k0_hw4
@[reducible] def k0_t9_loop : Scf.Loop 32 :=
  let c0_i32_26 : BitVec 32 := 0#32
  let c4096_i32_27 : BitVec 32 := 4096#32
  let v70 : BitVec 32 := Scalar.addi c0_i32_26 c4096_i32_27
  let c1_i32_28 : BitVec 32 := 1#32
  ⟨c0_i32_26, v70, c1_i32_28⟩
def k0_off14 (k0_t9 : Fin k0_t9_loop.trips) : Fin 1 → Nat :=
  let c4095_i32 : BitVec 32 := 4095#32
  let c0_i32_34 : BitVec 32 := 0#32
  let c0_i32_26 : BitVec 32 := 0#32
  let c1_i32_28 : BitVec 32 := 1#32
  let arg11 : BitVec 32 := Scf.iv c0_i32_26 c1_i32_28 k0_t9
  let c1_i32_33 : BitVec 32 := 1#32
  let v81 : BitVec 32 := Scalar.muli arg11 c1_i32_33
  let v82 : BitVec 32 := Scalar.addi c0_i32_34 v81
  let v83 : BitVec 32 := Scalar.subi c4095_i32 v82
  let c16_i32_35 : BitVec 32 := 16#32
  let v84 : BitVec 32 := Scalar.muli v83 c16_i32_35
  let v85 : Index := Scalar.indexCast v84
  ![v85.toNat]
def k0_off15 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_31 : BitVec 32 := 16#32
  let v79 : BitVec 32 := Scalar.muli v1 c16_i32_31
  ![v79.toNat]
abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x7816x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x16 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x7816x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩
abbrev S32x999999 : Shape := ⟨2, ![32, 999999]⟩

abbrev nBuf : Space → Nat
  | .hbm => 63
  | .vmem => 0
  | .smem => 0
  | _ => 0

abbrev bufTy : (tb : Table) → Fin (tcTables nBuf tb) → BufTy
  | .hbm, ⟨0, _⟩ => ⟨S32x1000000, .i32⟩
  | .hbm, ⟨1, _⟩ => ⟨S32x1000000, .f32⟩
  | .hbm, ⟨2, _⟩ => ⟨S_, .f32⟩
  | .hbm, ⟨3, _⟩ => ⟨S32x1000000, .f32⟩
  | .hbm, ⟨4, _⟩ => ⟨S32x1000000, .f32⟩
  | .hbm, ⟨5, _⟩ => ⟨S_, .i32⟩
  | .hbm, ⟨6, _⟩ => ⟨S32x1000000, .i32⟩
  | .hbm, ⟨7, _⟩ => ⟨S32x1000000, .i32⟩
  | .hbm, ⟨8, _⟩ => ⟨S32x1000000, .f32⟩
  | .hbm, ⟨9, _⟩ => ⟨S_, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32x1, .f32⟩
  | .hbm, ⟨15, _⟩ => ⟨S32x1000000, .f32⟩
  | .hbm, ⟨16, _⟩ => ⟨S32x1000000, .f32⟩
  | .hbm, ⟨17, _⟩ => ⟨S32x1000000, .f32⟩
  | .hbm, ⟨18, _⟩ => ⟨S_, .f32⟩
  | .hbm, ⟨19, _⟩ => ⟨S32, .f32⟩
  | .hbm, ⟨20, _⟩ => ⟨S32x1, .f32⟩
  | .hbm, ⟨21, _⟩ => ⟨S32x1000000, .f32⟩
  | .hbm, ⟨22, _⟩ => ⟨S32x1000000, .f32⟩
  | .hbm, ⟨23, _⟩ => ⟨S32x1000000, .f32⟩
  | .hbm, ⟨24, _⟩ => ⟨S32x1000000, .f32⟩
  | .hbm, ⟨25, _⟩ => ⟨S32x1000000, .f32⟩
  | .hbm, ⟨26, _⟩ => ⟨S_, .f32⟩
  | .hbm, ⟨27, _⟩ => ⟨S_, .f32⟩
  | .hbm, ⟨28, _⟩ => ⟨S32x1000000, .f32⟩
  | .hbm, ⟨29, _⟩ => ⟨S_, .f32⟩
  | .hbm, ⟨30, _⟩ => ⟨S32x1000000, .f32⟩
  | .hbm, ⟨31, _⟩ => ⟨S32x1000000, .i1⟩
  | .hbm, ⟨32, _⟩ => ⟨S32x1, .i1⟩
  | .hbm, ⟨33, _⟩ => ⟨S_, .i1⟩
  | .hbm, ⟨34, _⟩ => ⟨S32x1, .i1⟩
  | .hbm, ⟨35, _⟩ => ⟨S32x999999, .i1⟩
  | .hbm, ⟨36, _⟩ => ⟨S32x1000000, .i1⟩
  | .hbm, ⟨37, _⟩ => ⟨S32x1000000, .f32⟩
  | .hbm, ⟨38, _⟩ => ⟨S_, .f32⟩
  | .hbm, ⟨39, _⟩ => ⟨S_, .f32⟩
  | .hbm, ⟨40, _⟩ => ⟨S32x1000000, .f32⟩
  | .hbm, ⟨41, _⟩ => ⟨S32x1000000, .f32⟩
  | .hbm, ⟨42, _⟩ => ⟨S_, .f32⟩
  | .hbm, ⟨43, _⟩ => ⟨S32, .f32⟩
  | .hbm, ⟨44, _⟩ => ⟨S32x1, .f32⟩
  | .hbm, ⟨45, _⟩ => ⟨S32x1000000, .f32⟩
  | .hbm, ⟨46, _⟩ => ⟨S32x1000000, .i1⟩
  | .hbm, ⟨47, _⟩ => ⟨S32x1000000, .f32⟩
  | .hbm, ⟨48, _⟩ => ⟨S32x1000000, .f32⟩
  | .hbm, ⟨49, _⟩ => ⟨S_, .f32⟩
  | .hbm, ⟨50, _⟩ => ⟨S32, .f32⟩
  | .hbm, ⟨51, _⟩ => ⟨S32x1, .f32⟩
  | .hbm, ⟨52, _⟩ => ⟨S32x1000000, .f32⟩
  | .hbm, ⟨53, _⟩ => ⟨S32x1000000, .f32⟩
  | .hbm, ⟨54, _⟩ => ⟨S_, .f32⟩
  | .hbm, ⟨55, _⟩ => ⟨S_, .f32⟩
  | .hbm, ⟨56, _⟩ => ⟨S32x1000000, .f32⟩
  | .hbm, ⟨57, _⟩ => ⟨S32x1000000, .f32⟩
  | .hbm, ⟨58, _⟩ => ⟨S32x1000000, .f32⟩
  | .hbm, ⟨59, _⟩ => ⟨S_, .f32⟩
  | .hbm, ⟨60, _⟩ => ⟨S_, .f32⟩
  | .hbm, ⟨61, _⟩ => ⟨S32x1000000, .f32⟩
  | .hbm, ⟨62, _⟩ => ⟨S32x1000000, .f32⟩
  | _, _ => ⟨S32x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_call0_call0_cst : Ref sig .tc := ⟨.hbm, 26, rfl⟩
abbrev main_call0_call0_v0 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_call2_v0 : Ref sig .tc := ⟨.hbm, 55, rfl⟩
abbrev main_call2_v1 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_call3_v0 : Ref sig .tc := ⟨.hbm, 60, rfl⟩
abbrev main_call3_v1 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Proof.Spec.lean ====
/- What one tile computes from its row, as pure functions over any float values: the histogram after some of the row's
   vectors, the running lane sums, the descending scan over the bins, the second histogram and scan, and the two words the
   tile writes out. -/
module

public import proofs.«01_k».proof.Proof.Gen.KernelIdeal.Skeleton
public import Idealize.ShloMosaic.Lib.SortFacts

@[expose] public section

noncomputable section

namespace Cert.Proof

open Cert.KernelIdeal Cert.KernelIdeal.Gen
open Idealize.ShloMosaic

/-- The `k`-th position of a rank-one shape. -/
abbrev ix {n : ℕ} (k : ℕ) (h : k < n) : (⟨1, ![n]⟩ : Shape).Idx := Shape.Idx.ofFin ⟨k, h⟩

theorem ix_val {n : ℕ} (k : ℕ) (h : k < n) : ((ix k h) 0).val = k := by
  show ((Shape.Idx.ofFin (⟨k, h⟩ : Fin n)) 0).val = k
  rw [Shape.Idx.ofFin_zero]

/-- Two positions of a rank-one shape with the same coordinate are the same. -/
theorem idx1_ext {n : ℕ} {p q : (⟨1, ![n]⟩ : Shape).Idx} (h : (p 0).val = (q 0).val) : p = q := by
  funext a; rw [Fin.eq_zero a]; exact Fin.ext h

variable {F : FTy → Type} [FloatOps F]

/-- The `j`-th vector of sixteen words of a row. -/
def vreg (w : ℕ → BitVec 32) (j : ℕ) : Vec F S16 .i32 := fun x => w (16 * j + (x 0).val)

/-- Adding a lane to a bin number below 4096 times sixteen stays below 65536. -/
theorem slot_toNat {a b : BitVec 32} (ha : a.toNat < 4096) (hb : b.toNat < 16) :
    (a <<< 4 + b).toNat = 16 * a.toNat + b.toNat := by
  rw [BitVec.toNat_add, BitVec.toNat_shiftLeft, Nat.shiftLeft_eq]; omega

/-- The lane numbers of a vector of sixteen. -/
abbrev lanes : IVec S16 32 := iota .scVector S16 32 [0] iota_S16_d0_w32_scVector

theorem lanes_toNat (x : S16.Idx) : (lanes x).toNat = (x 0).val := by
  have h : (x 0).val < 16 := (x 0).isLt
  show (BitVec.ofNat 32 (0 * 16 + (x 0).val)).toNat = (x 0).val
  rw [BitVec.toNat_ofNat]; omega

/-- The order key of a word, as the kernel computes it. -/
def key (u : BitVec 32) : BitVec 32 :=
  Scalar.select (FloatOps.cmpf .olt (FloatOps.ofBits (F := F) .f32 u) (Scalar.ofBits .f32 0x00000000#32))
    (u ^^^ 4294967295#32) (u ^^^ 2147483648#32)

theorem shrui_lit (a : BitVec 32) (n : ℕ) (h : n < 32) : IntOp.shrui .vector a (BitVec.ofNat 32 n) = a >>> n := by
  have e : (BitVec.ofNat 32 n).toNat = n := by rw [BitVec.toNat_ofNat]; omega
  unfold IntOp.shrui
  rw [if_pos (by rw [e]; exact h), BitVec.ushiftRight_eq', e]

theorem shli_lit (a : BitVec 32) (n : ℕ) (h : n < 32) : IntOp.shli .vector a (BitVec.ofNat 32 n) = a <<< n := by
  have e : (BitVec.ofNat 32 n).toNat = n := by rw [BitVec.toNat_ofNat]; omega
  unfold IntOp.shli
  rw [if_pos (by rw [e]; exact h), BitVec.shiftLeft_eq', e]

/-- The key's top twelve bits name its first bin, the next twelve its second. -/
def bin1 (u : BitVec 32) : BitVec 32 := IntOp.shrui .vector (key (F := F) u) 20#32
def bin2 (u : BitVec 32) : BitVec 32 := IntOp.andi (IntOp.shrui .vector (key (F := F) u) 8#32) 4095#32

theorem bin1_eq (u : BitVec 32) : bin1 (F := F) u = key (F := F) u >>> 20 := shrui_lit _ 20 (by decide)
theorem bin2_eq (u : BitVec 32) : bin2 (F := F) u = (key (F := F) u >>> 8) &&& 4095#32 :=
  congrArg (· &&& 4095#32) (shrui_lit _ 8 (by decide))

theorem bin1_lt (u : BitVec 32) : (bin1 (F := F) u).toNat < 4096 := by
  rw [bin1_eq, BitVec.toNat_ushiftRight, Nat.shiftRight_eq_div_pow]
  have := (key (F := F) u).isLt; omega

theorem bin2_lt (u : BitVec 32) : (bin2 (F := F) u).toNat < 4096 := by
  rw [bin2_eq, BitVec.toNat_and]
  exact lt_of_le_of_lt Nat.and_le_right (by decide)

theorem pay8_apply (v : Vec F S16 .i32) (x : S16.Idx) : k0_pay8 v x = bin1 (F := F) (v x) <<< 4 + lanes x :=
  congrArg (· + lanes x) (shli_lit (bin1 (F := F) (v x)) 4 (by decide))
theorem pay24_apply (v : Vec F S16 .i32) (x : S16.Idx) : k0_pay24 lanes v x = bin2 (F := F) (v x) <<< 4 + lanes x :=
  congrArg (· + lanes x) (shli_lit (bin2 (F := F) (v x)) 4 (by decide))
theorem pay23_apply (c : BitVec 32) (v : Vec F S16 .i32) (x : S16.Idx) :
    k0_pay23 c v x = IntOp.cmpi .eq (bin1 (F := F) (v x)) c := rfl

theorem pay8_toNat (v : Vec F S16 .i32) (x : S16.Idx) : (k0_pay8 v x).toNat = 16 * (bin1 (F := F) (v x)).toNat + (x 0).val := by
  rw [pay8_apply, slot_toNat (bin1_lt _) (by rw [lanes_toNat]; exact (x 0).isLt), lanes_toNat]
theorem pay24_toNat (v : Vec F S16 .i32) (x : S16.Idx) :
    (k0_pay24 lanes v x).toNat = 16 * (bin2 (F := F) (v x)).toNat + (x 0).val := by
  rw [pay24_apply, slot_toNat (bin2_lt _) (by rw [lanes_toNat]; exact (x 0).isLt), lanes_toNat]

/-- Every first-pass index vector is in range, -/
theorem chk1 (v : Vec F S16 .i32) : k0_chk1 (k0_pay8 v) := by
  intro a x
  rw [Fin.eq_zero a]
  show (k0_pay8 v x).toNat < 65536
  have h16 : (x 0).val < 16 := (x 0).isLt
  have := bin1_lt (F := F) (v x)
  rw [pay8_toNat]; omega

/-- and every second-pass one. -/
theorem chk3 (v : Vec F S16 .i32) : k0_chk3 (k0_pay24 lanes v) := by
  intro a x
  rw [Fin.eq_zero a]
  show (k0_pay24 lanes v x).toNat < 65536
  have h16 : (x 0).val < 16 := (x 0).isLt
  have := bin2_lt (F := F) (v x)
  rw [pay24_toNat]; omega

/-- The histogram of all zeros. -/
def hist0 : Vec F S65536 .f32 := fun _ => Scalar.ofBits .f32 0x00000000#32

/-- One vector's exponentials added at the bins its keys' top bits name, lane by lane. -/
def hstep1 (h : Vec F S65536 .f32) (v : Vec F S16 .i32) : Vec F S65536 .f32 :=
  storeIdx h ![k0_pay8 v] (k0_pay7 v) (fun _ => 1#1) true (k0_idx1_inb _ (chk1 v))

/-- One vector's exponentials added at the bins its keys' next bits name, the elements of the first bin `c` only. -/
def hstep2 (c : BitVec 32) (h : Vec F S65536 .f32) (v : Vec F S16 .i32) : Vec F S65536 .f32 :=
  storeIdx h ![k0_pay24 lanes v] (k0_pay22 v) (k0_pay23 c v) true (k0_idx3_inb _ (chk3 v))

/-- The first histogram after the first `n` vectors of the row. -/
def hist1 (w : ℕ → BitVec 32) : ℕ → Vec F S65536 .f32
  | 0 => hist0
  | n + 1 => hstep1 (hist1 w n) (vreg w n)

/-- The sixteen running sums of exponentials after the first `n` vectors. -/
def zsum (w : ℕ → BitVec 32) : ℕ → FVec F S16 .f32
  | 0 => k0_pay5
  | n + 1 => k0_pay9 (zsum w n) (vreg w n)

/-- The second histogram, of the elements of first bin `c`, after the first `n` vectors. -/
def hist2 (w : ℕ → BitVec 32) (c : BitVec 32) : ℕ → Vec F S65536 .f32
  | 0 => hist0
  | n + 1 => hstep2 c (hist2 w c n) (vreg w n)

/-- What the scan carries: the running mass, the bin found, the mass down to and with it, the bin's own mass. -/
abbrev Carry (F : FTy → Type) : Type := F .f32 × BitVec 32 × F .f32 × F .f32

/-- The sixteen lanes of the bin the scan reads at trip `t`: bin `4095 - t`. -/
def row (h : Vec F S65536 .f32) (t : ℕ) : Vec F S16 .f32 :=
  fun x => h (ix ((65520 - 16 * t) + (x 0).val) (by have : (x 0).val < 16 := (x 0).isLt; omega))

/-- One step of the descending scan. -/
def sstep (v12 : FVec F S16 .f32) (b : BitVec 32) (r : Vec F S16 .f32) (a : Carry F) : Carry F :=
  (k0_pay16 a.1 (k0_pay3 r),
    Scalar.select (Scalar.andi (Scalar.cmpf .olt a.1 (k0_pay15 v12 (k0_pay14 v12)))
      (Scalar.cmpf .oge (k0_pay16 a.1 (k0_pay3 r)) (k0_pay15 v12 (k0_pay14 v12)))) b a.2.1,
    k0_pay17 v12 (k0_pay14 v12) a.1 a.2.2.1 (k0_pay3 r), k0_pay18 v12 (k0_pay14 v12) a.1 a.2.2.2 (k0_pay3 r))

/-- The scan after its first `n` trips over the histogram `h`, from `a`. -/
def scan (v12 : FVec F S16 .f32) (h : Vec F S65536 .f32) (a : Carry F) : ℕ → Carry F
  | 0 => a
  | n + 1 => sstep v12 (Scalar.subi 4095#32 (BitVec.ofNat 32 n)) (row h n) (scan v12 h a n)

/-- The zero float. -/
abbrev zF : F .f32 := Scalar.ofBits .f32 0x00000000#32

/-- The first scan's outcome, over the whole row. -/
def scanA (w : ℕ → BitVec 32) : Carry F := scan (zsum w 62500) (hist1 w 62500) (zF, 0#32, zF, zF) 4096
/-- The mass strictly above the bin found. -/
def above (w : ℕ → BitVec 32) : F .f32 := k0_pay19 (scanA (F := F) w).2.2.1 (scanA (F := F) w).2.2.2
/-- The second scan's outcome. -/
def scanB (w : ℕ → BitVec 32) : Carry F :=
  scan (zsum w 62500) (hist2 w (scanA (F := F) w).2.1 62500) (above w, 0#32, above w, zF) 4096

/-- The key threshold the tile writes out. -/
def outKey (w : ℕ → BitVec 32) : BitVec 32 :=
  Scalar.shli (Scalar.ori (Scalar.shli (scanA (F := F) w).2.1 12#32) (scanB (F := F) w).2.1) 8#32
/-- The kept mass the tile writes out. -/
def outSum (w : ℕ → BitVec 32) : F .f32 := (scanB (F := F) w).2.2.1

end Cert.Proof
-- ==== Proof.Common.lean ====
/- The launch as the launch theorem sees it, the buffers and semaphores one tile works on, which part of each array is
   which tile's, and the two steps of a copy of one chunk of a row: its start and its wait. -/
module

public import proofs.«01_k».proof.Defs
public import proofs.«01_k».proof.Proof.Gen.KernelIdeal
public import proofs.«01_k».proof.Proof.Gen.KernelIdeal.Skeleton
public import proofs.«01_k».proof.Proof.Spec
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.ValueKit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program and the resource algebra -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
/-- The pipeline library's algebra, for the TensorCore kernel's windows. -/
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans embR
instance EP_landsIn : (EP (F := F)).LandsIn (upEmb : UEmb _ 𝕄) := by unfold EP; infer_instance
abbrev EC : UEmb Counters (MT nD τ sig (HIx 1) (Elt F) ℕ UU ℕ) := countersEmb

/-! ## One tile's buffers and semaphores -/

abbrev aX : Memref sig .scVector .hbm S32000000 .i32 := Memref.whole main_v0_scv
abbrev aK : Memref sig .scVector .hbm S512 .i32 := Memref.whole main_v1_0_scv
abbrev aS : Memref sig .scVector .hbm S512 .f32 := Memref.whole main_v1_1_scv
abbrev aB : Memref sig .scVector .vmem S40000 .i32 := Memref.whole cc0_scratch0
abbrev aH : Memref sig .scVector .vmem S65536 .f32 := Memref.whole cc0_scratch1
abbrev aKb : Memref sig .scVector .vmem S16 .i32 := Memref.whole cc0_scratch2
abbrev aSb : Memref sig .scVector .vmem S16 .f32 := Memref.whole cc0_scratch3

variable (d : Dev nD) (L : grid0.Coords)

abbrev cV : Fin τ.nSC := (L 0).castLE hcore0
abbrev jV : Fin τ.nSub := (L 1).castLE hsub0
/-- The tile's thread. -/
abbrev tv : Thread nD τ := V d (cV L) (jV L)

abbrev xLoc : Loc nD τ sig := (tv d L).loc main_v0_scv
abbrev kLoc : Loc nD τ sig := (tv d L).loc main_v1_0_scv
abbrev sLoc : Loc nD τ sig := (tv d L).loc main_v1_1_scv
abbrev bLoc : Loc nD τ sig := (tv d L).loc cc0_scratch0
abbrev hLoc : Loc nD τ sig := (tv d L).loc cc0_scratch1
abbrev kbLoc : Loc nD τ sig := (tv d L).loc cc0_scratch2
abbrev sbLoc : Loc nD τ sig := (tv d L).loc cc0_scratch3

abbrev cell0 : GSem nD τ sig := (tv d L, .dma cc0_scratch4.sem)
abbrev cell1 : GSem nD τ sig := (tv d L, .dma cc0_scratch5.sem)
abbrev cellK : GSem nD τ sig := (tv d L, .dma cc0_scoped0.sem)
abbrev cellS : GSem nD τ sig := (tv d L, .dma cc0_scoped1.sem)

theorem ownSems0_V :
    (ownSems0 (tv d L) : sProp 𝕄)
      = iprop(semVal (cell0 d L) 0 ∗ semVal (cell1 d L) 0 ∗ semVal (cellK d L) 0 ∗ semVal (cellS d L) 0
          ∗ bigSep (((((ownCells (tv d L)).erase (cell0 d L)).erase (cell1 d L)).erase (cellK d L)).erase (cellS d L))
              fun g => semVal g 0) := by
  unfold SparseCore.Cfg.ownSems0
  rw [SparseCore.bigSep_erase' ((mem_ownCells (g := cell0 d L)).mpr ⟨rfl, by
      show (SemLoc.dma cc0_scratch4.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scratch5.sem : SemLoc sig).isScoped .scVector = true; decide⟩⟩),
    SparseCore.bigSep_erase' (Finset.mem_erase.mpr ⟨by simp [cell1, cellK]; decide, Finset.mem_erase.mpr ⟨by simp [cell0, cellK]; decide,
      (mem_ownCells (g := cellK d L)).mpr ⟨rfl, by show (SemLoc.dma cc0_scoped0.sem : SemLoc sig).isScoped .scVector = true; decide⟩⟩⟩),
    SparseCore.bigSep_erase' (Finset.mem_erase.mpr ⟨by simp [cellK, cellS]; decide, Finset.mem_erase.mpr ⟨by simp [cell1, cellS]; decide,
      Finset.mem_erase.mpr ⟨by simp [cell0, cellS]; decide,
      (mem_ownCells (g := cellS d L)).mpr ⟨rfl, by show (SemLoc.dma cc0_scoped1.sem : SemLoc sig).isScoped .scVector = true; decide⟩⟩⟩⟩)]

/-- The tile's four scratch buffers are among the subcore's own. -/
theorem ownBufs_V :
    (ownBufs (tv d L) : sProp 𝕄)
      = iprop((∃ f, bLoc d L ↦{fullShare} f) ∗ (∃ f, hLoc d L ↦{fullShare} f) ∗ (∃ f, kbLoc d L ↦{fullShare} f) ∗ (∃ f, sbLoc d L ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have ne : ∀ {a b : Ref sig .scVector}, a ≠ b → (Proc.scVector (cV L) (jV L)).devRef a ≠ (Proc.scVector (cV L) (jV L)).devRef b :=
    fun h e => absurd (Proc.devRef_injective _ e) h
  have own := fun (b : Ref sig .scVector) (h : ((Proc.scVector (cV L) (jV L)).devRef b).owner = _) =>
    SparseCore.Cfg.mem_ownRefs_of_owner (p := Proc.scVector (cV L) (jV L)) (b := (Proc.scVector (cV L) (jV L)).devRef b) h
  unfold SparseCore.Cfg.ownBufs
  refine (SparseCore.bigSep_erase' (own cc0_scratch0 rfl)).trans ?_
  rw [SparseCore.bigSep_erase' (Finset.mem_erase.mpr ⟨ne (show (cc0_scratch1 : Ref sig .scVector) ≠ cc0_scratch0 by decide), own cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), own cc0_scratch2 rfl⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
      Finset.mem_erase.mpr ⟨ne (show (cc0_scratch3 : Ref sig .scVector) ≠ cc0_scratch0 by decide), own cc0_scratch3 rfl⟩⟩⟩)]

/-! ## Which part of an array is whose -/

/-- The tile's row. -/
abbrev rowOf : ℕ := 16 * (L 0).val + (L 1).val

theorem rowOf_lt : rowOf L < 32 := by
  have h0 : (L 0).val < 2 := (L 0).isLt
  have h1 : (L 1).val < 16 := (L 1).isLt
  unfold rowOf; omega

/-- Row `r` of the flat words. -/
def xset (r : ℕ) : Finset S32000000.Idx := Finset.univ.filter fun p => (p 0).val / 1000000 = r
/-- Chunk `k` of row `r`. -/
def cset (r k : ℕ) : Finset S32000000.Idx :=
  Finset.univ.filter fun p => 1000000 * r + 20000 * k ≤ (p 0).val ∧ (p 0).val < 1000000 * r + 20000 * (k + 1)
/-- Row `r` of a result of the SparseCore call. -/
def oset (r : ℕ) : Finset S512.Idx := Finset.univ.filter fun p => (p 0).val / 16 = r

theorem mem_xset {r : ℕ} {p : S32000000.Idx} : p ∈ xset r ↔ (p 0).val / 1000000 = r := by simp [xset]
theorem mem_cset {r k : ℕ} {p : S32000000.Idx} :
    p ∈ cset r k ↔ 1000000 * r + 20000 * k ≤ (p 0).val ∧ (p 0).val < 1000000 * r + 20000 * (k + 1) := by simp [cset]
theorem mem_oset {r : ℕ} {p : S512.Idx} : p ∈ oset r ↔ (p 0).val / 16 = r := by simp [oset]

theorem cset_subset {r k : ℕ} (hk : k < 50) : cset r k ⊆ xset r := by
  intro p hp
  rw [mem_cset] at hp; rw [mem_xset]; omega

/-- The words of row `r`. -/
def words (X : S32000000.Idx → BitVec 32) (r n : ℕ) : BitVec 32 :=
  if h : 1000000 * r + n < 32000000 then X (ix (1000000 * r + n) h) else 0

theorem words_of (X : S32000000.Idx → BitVec 32) {r n : ℕ} (p : S32000000.Idx) (h : (p 0).val = 1000000 * r + n) :
    words X r n = X p := by
  have hp : (p 0).val < 32000000 := (p 0).isLt
  unfold words
  rw [dif_pos (by omega)]
  exact congrArg X (idx1_ext (by rw [ix_val]; exact h.symm))

/-- What the half of the double buffer at `o` holds once chunk `k` of the row `w` has arrived. -/
def chunk (w : ℕ → BitVec 32) (k o : ℕ) : S40000.Idx → BitVec 32 := fun p => w (20000 * k + ((p 0).val - o))

theorem inb_slot {o : ℕ} (ho : o ≤ 20000) : ∀ a, (![o] : Fin 1 → ℕ) a + S20000.size a ≤ S40000.size a := by
  intro a; rw [Fin.eq_zero a]; show o + 20000 ≤ 40000; omega

/-- The positions of the half at `o`. -/
def slotSet (o : ℕ) : Finset S40000.Idx := Finset.univ.filter fun p => o ≤ (p 0).val ∧ (p 0).val < o + 20000
theorem mem_slotSet {o : ℕ} {p : S40000.Idx} : p ∈ slotSet o ↔ o ≤ (p 0).val ∧ (p 0).val < o + 20000 := by simp [slotSet]

theorem slot_set (o : ℕ) (inb) :
    (aB.slice (Rect.unit (s := S40000) ![o] S20000.size inb) (fun _ => rfl)).view.set = slotSet o := by
  refine (View.set_slice_whole _ _).trans ?_
  ext p
  rw [mem_slotSet]
  refine Rect.mem_set_unit.trans ⟨fun h => h 0, fun h a => ?_⟩
  rw [Fin.eq_zero a]; exact h

theorem src_set (off : Fin 1 → ℕ) (inb) {r k : ℕ} (hoff : off 0 = 1000000 * r + 20000 * k) :
    (aX.slice (Rect.unit (s := S32000000) off S20000.size inb) (fun _ => rfl)).view.set = cset r k := by
  refine (View.set_slice_whole _ _).trans ?_
  ext p
  rw [mem_cset]
  have e : ∀ P : Prop, (off 0 ≤ (p 0).val ∧ (p 0).val < off 0 + 20000) = P → (p ∈ (Rect.unit (s := S32000000) off S20000.size inb).set ↔ P) := by
    rintro _ rfl
    refine Rect.mem_set_unit.trans ⟨fun h => h 0, fun h a => ?_⟩
    rw [Fin.eq_zero a]; exact h
  refine e _ (propext ?_)
  rw [hoff]; omega

/-- A chunk written into its half of the double buffer leaves there the row's words. -/
theorem chunk_write (X : S32000000.Idx → BitVec 32) (off : Fin 1 → ℕ) (inb) (o : ℕ) (inb') {r k : ℕ} (hoff : off 0 = 1000000 * r + 20000 * k)
    (f : Buf (Elt F) (bLoc d L)) (p : S40000.Idx) (hp : p ∈ slotSet o) :
    ((aB.slice (Rect.unit (s := S40000) ![o] S20000.size inb') (fun _ => rfl)).view.write (Elt F) f
      (ReadAs.same.apply ((aX.slice (Rect.unit (s := S32000000) off S20000.size inb) (fun _ => rfl)).view.read (Elt F) X)) Finset.univ) p
      = chunk (words X r) k o p := by
  rw [mem_slotSet] at hp
  have hmem : p ∈ (aB.slice (Rect.unit (s := S40000) ![o] S20000.size inb') (fun _ => rfl)).view.set := by
    rw [slot_set, mem_slotSet]; exact hp
  obtain ⟨y, -, rfl⟩ := Finset.mem_map.1 hmem
  rw [View.write_emb_of_mem _ _ (Finset.mem_univ _)]
  have e1 : ((((View.whole cc0_scratch0).slice (Rect.unit (s := S40000) ![o] S20000.size inb')).emb y 0 : Fin _) : ℕ) = o + (y 0).val :=
    ValueKit.view_emb_slice_whole_unit_val _ _ _ _ _ _
  have e2 : ((((View.whole main_v0_scv).slice (Rect.unit (s := S32000000) off S20000.size inb)).emb y 0 : Fin _) : ℕ) = off 0 + (y 0).val :=
    ValueKit.view_emb_slice_whole_unit_val _ _ _ _ _ _
  show X (((View.whole main_v0_scv).slice (Rect.unit (s := S32000000) off S20000.size inb)).emb y) = words X r (20000 * k + (_ - o))
  refine (words_of X _ ?_).symm
  rw [e2, hoff]
  show 1000000 * r + 20000 * k + (y 0).val = 1000000 * r + (20000 * k + ((((View.whole cc0_scratch0).slice (Rect.unit (s := S40000) ![o] S20000.size inb')).emb y 0 : Fin _).val - o))
  rw [e1]; omega

/-! ## A chunk's copy: its start and its wait -/

/-- Chunk `k`'s copy into the half at `o` under way: what the wait hands back, and the rest of the row meanwhile. -/
def FL (X : Buf (Elt F) (xLoc d L)) (q : PosShare TreeShare) (sm : DmaSem sig) (o k : ℕ) : sProp 𝕄 :=
  iprop(Transfers.Flight EC (tv d L) (.dma sm) none ((cc0_scratch0 : Ref sig .scVector).dmaCredit S20000 .i32)
      iprop((bLoc d L ↦[slotSet o]{fullShare} chunk (words X (rowOf L)) k o) ∗ (xLoc d L ↦[cset (rowOf L) k]{q} X))
    ∗ xLoc d L ↦[xset (rowOf L) \ cset (rowOf L) k]{q} X)

variable [FloatOps F]

theorem start (X : Buf (Elt F) (xLoc d L)) (q : PosShare TreeShare) (sm : DmaSem sig) (o k : ℕ) (hk : k < 50)
    {α : Type} {Q : α → sProp 𝕄} {kk : PUnit → Prog (TpuEff nD τ sig (Elt F) Λ₀ (tv d L).2) α}
    (off : Fin 1 → ℕ) (inb) (inb') (hoff : off 0 = 1000000 * rowOf L + 20000 * k) (f : Buf (Elt F) (bLoc d L))
    {hsrc} {hdst} {hsem} :
    iprop((xLoc d L ↦[xset (rowOf L)]{q} X) ∗ (bLoc d L ↦[slotSet o]{fullShare} f) ∗ semVal (tv d L, .dma sm) 0)
      ⊢ iprop((FL d L X q sm o k -∗ wp frame (wpE defs₀ 𝒱₀ (tv d L) none) Set.univ (kk ⟨⟩) Q)
        -∗ wp frame (wpE defs₀ 𝒱₀ (tv d L) none) Set.univ
          (.op (.enqueueDma (aX.slice (Rect.unit (s := S32000000) off S20000.size inb) (fun _ => rfl))
            (.here (aB.slice (Rect.unit (s := S40000) ![o] S20000.size inb') (fun _ => rfl))) (.dma sm) hsrc hdst hsem) kk) Q) := by
  have hs := src_set off inb hoff
  iintro ⟨Hx, Hb, Hsem⟩ Hk
  ihave Hx' := (pointsTo_split_subset (cset_subset (r := rowOf L) hk)).1 $$ Hx
  icases Hx' with ⟨Hc, Hrest⟩
  iapply (Transfers.wp_dmaLocal EC 𝒱₀ (tv d L) none
    (src := aX.slice (Rect.unit (s := S32000000) off S20000.size inb) (fun _ => rfl)) (via := ReadAs.same)
    (dst := aB.slice (Rect.unit (s := S40000) ![o] S20000.size inb') (fun _ => rfl))
    (q := q) (fs := X) (Sd := slotSet o) (fd := f) none ((cc0_scratch0 : Ref sig .scVector).dmaCredit S20000 .i32) rfl (sig.dmaCredit_pos _ _ _ _ _ (by decide)) (slot_set o inb').le) $$ [Hc Hb Hsem]
  · rw [hs]
    isplitl [Hc]; · iexact Hc
    isplitl [Hb]; · iexact Hb
    iexact Hsem
  iintro Hfl
  iapply Hk
  unfold FL
  isplitl [Hfl]
  · iapply (Transfers.Flight_mono EC (tv d L) (BI.sep_mono ?_ ?_)) $$ Hfl
    · refine (Entails.of_eq (pointsTo_congr fun p hp => ?_))
      exact chunk_write d L X off inb o inb' hoff f p hp
    · exact Entails.of_eq (congrArg (fun I => (xLoc d L ↦[I]{q} X : sProp 𝕄)) hs)
  iexact Hrest

theorem finish (X : Buf (Elt F) (xLoc d L)) (q : PosShare TreeShare) (sm : DmaSem sig) (o k : ℕ) (hk : k < 50)
    {α : Type} {Q : α → sProp 𝕄} {kk : PUnit → Prog (TpuEff nD τ sig (Elt F) Λ₀ (tv d L).2) α}
    (off : Fin 1 → ℕ) (inb) (inb') {O : CellTallies nD τ sig (HIx 1)} {W : Waits sig (HIx 1)} (hO : ∀ g, O g none = 0)
    {hsrc} {hdst} :
    iprop(levAts (K (F := F)).L (K (F := F)).lev ∗ FL d L X q sm o k ∗ owes (tv d L) O W)
      ⊢ iprop((iprop((xLoc d L ↦[xset (rowOf L)]{q} X) ∗ (bLoc d L ↦[slotSet o]{fullShare} chunk (words X (rowOf L)) k o)
            ∗ semVal (tv d L, .dma sm) 0 ∗ owes (tv d L) O (insert (SemLoc.dma sm, none) W))
          -∗ wp frame (wpE defs₀ 𝒱₀ (tv d L) none) Set.univ (kk ⟨⟩) Q)
        -∗ wp frame (wpE defs₀ 𝒱₀ (tv d L) none) Set.univ
          (.op (.waitDma2 sm (aX.slice (Rect.unit (s := S32000000) off S20000.size inb) (fun _ => rfl))
            (aB.slice (Rect.unit (s := S40000) ![o] S20000.size inb') (fun _ => rfl)) hsrc hdst) kk) Q) := by
  unfold FL
  iintro ⟨#Hlv, ⟨Hfl, Hrest⟩, HO⟩ Hk
  iapply (Transfers.wp_waitLocalO EC 𝒱₀ (tv d L) none none (N := (cc0_scratch0 : Ref sig .scVector).dmaCredit S20000 .i32) rfl) $$ [Hfl HO]
  · isplitl [Hfl]; · iexact Hfl
    isplitl [HO]; · iexact HO
    iapply ((K (F := F)).mayWait_none (SemLoc.dma sm) hO); iexact Hlv
  iintro ⟨⟨Hb, Hc⟩, Hsem, HO⟩
  iapply Hk
  isplitl [Hc Hrest]
  · ihave H := (pointsTo_split_subset (ℓ := xLoc d L) (q := q) (f := X) (cset_subset (r := rowOf L) hk)).2 $$ [Hc Hrest]
    · isplitl [Hc] <;> iassumption
    iexact H
  isplitl [Hb]; · iexact Hb
  isplitl [Hsem]; · iexact Hsem
  iexact HO

end Cert.Proof
-- ==== Proof.Loops.lean ====
/- The bodies of one tile's short loops, each run once at a symbolic trip: zeroing the histogram, adding one vector of
   sixteen words to it, and one step of the descending scan. -/
module

public import proofs.«01_k».proof.Proof.Common

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)

/-! ## The loops' bodies at the tile's own buffers -/

abbrev b1 := k0_t1_body (F := F) L aX (Memref.isWhole_whole _) aK (Memref.isWhole_whole _) aS (Memref.isWhole_whole _) aB (Memref.isWhole_whole _)
  aH (Memref.isWhole_whole _) aKb (Memref.isWhole_whole _) aSb (Memref.isWhole_whole _) cc0_scratch4 cc0_scratch5 cc0_scoped0 cc0_scoped1
abbrev b2 := k0_t2_body (F := F) L aX (Memref.isWhole_whole _) aK (Memref.isWhole_whole _) aS (Memref.isWhole_whole _) aB (Memref.isWhole_whole _)
  aH (Memref.isWhole_whole _) aKb (Memref.isWhole_whole _) aSb (Memref.isWhole_whole _) cc0_scratch4 cc0_scratch5 cc0_scoped0 cc0_scoped1
abbrev b3 := k0_t3_body (F := F) L aX (Memref.isWhole_whole _) aK (Memref.isWhole_whole _) aS (Memref.isWhole_whole _) aB (Memref.isWhole_whole _)
  aH (Memref.isWhole_whole _) aKb (Memref.isWhole_whole _) aSb (Memref.isWhole_whole _) cc0_scratch4 cc0_scratch5 cc0_scoped0 cc0_scoped1
abbrev b4 := k0_t4_body (F := F) L aX (Memref.isWhole_whole _) aK (Memref.isWhole_whole _) aS (Memref.isWhole_whole _) aB (Memref.isWhole_whole _)
  aH (Memref.isWhole_whole _) aKb (Memref.isWhole_whole _) aSb (Memref.isWhole_whole _) cc0_scratch4 cc0_scratch5 cc0_scoped0 cc0_scoped1
abbrev b5 := k0_t5_body (F := F) L aX (Memref.isWhole_whole _) aK (Memref.isWhole_whole _) aS (Memref.isWhole_whole _) aB (Memref.isWhole_whole _)
  aH (Memref.isWhole_whole _) aKb (Memref.isWhole_whole _) aSb (Memref.isWhole_whole _) cc0_scratch4 cc0_scratch5 cc0_scoped0 cc0_scoped1
abbrev b6 := k0_t6_body (F := F) L aX (Memref.isWhole_whole _) aK (Memref.isWhole_whole _) aS (Memref.isWhole_whole _) aB (Memref.isWhole_whole _)
  aH (Memref.isWhole_whole _) aKb (Memref.isWhole_whole _) aSb (Memref.isWhole_whole _) cc0_scratch4 cc0_scratch5 cc0_scoped0 cc0_scoped1
abbrev b7 := k0_t7_body (F := F) L aX (Memref.isWhole_whole _) aK (Memref.isWhole_whole _) aS (Memref.isWhole_whole _) aB (Memref.isWhole_whole _)
  aH (Memref.isWhole_whole _) aKb (Memref.isWhole_whole _) aSb (Memref.isWhole_whole _) cc0_scratch4 cc0_scratch5 cc0_scoped0 cc0_scoped1
abbrev b8 := k0_t8_body (F := F) L aX (Memref.isWhole_whole _) aK (Memref.isWhole_whole _) aS (Memref.isWhole_whole _) aB (Memref.isWhole_whole _)
  aH (Memref.isWhole_whole _) aKb (Memref.isWhole_whole _) aSb (Memref.isWhole_whole _) cc0_scratch4 cc0_scratch5 cc0_scoped0 cc0_scoped1
abbrev b9 := k0_t9_body (F := F) L aX (Memref.isWhole_whole _) aK (Memref.isWhole_whole _) aS (Memref.isWhole_whole _) aB (Memref.isWhole_whole _)
  aH (Memref.isWhole_whole _) aKb (Memref.isWhole_whole _) aSb (Memref.isWhole_whole _) cc0_scratch4 cc0_scratch5 cc0_scoped0 cc0_scoped1

/-- The weakest precondition at the tile's thread. -/
abbrev wpv {α : Type} (p : Prog (TpuEff nD τ sig (Elt F) Λ₀ (tv d L).2) α) (Q : α → sProp 𝕄) : sProp 𝕄 :=
  wp frame (wpE defs₀ 𝒱₀ (tv d L) none) Set.univ p Q

/-! ## Reads and writes of sixteen consecutive positions -/

/-- Zeros stored at sixteen consecutive positions of the histogram. -/
theorem zero_write (off : Fin 1 → ℕ) (inb) (f : Vec F S65536 .f32) :
    ((aH.access (Rect.unit (s := S65536) off S16.size inb)).write (Elt F) f (k0_pay5 (F := F)) Finset.univ : Vec F S65536 .f32)
      = fun p => if off 0 ≤ (p 0).val ∧ (p 0).val < off 0 + 16 then zF else f p := by
  funext p
  have hiff : p ∈ (aH.access (Rect.unit (s := S65536) off S16.size inb)).set ↔ off 0 ≤ (p 0).val ∧ (p 0).val < off 0 + 16 := by
    refine ValueKit.mem_set_slice_whole_iff _ _ _ (Rect.mem_set_unit.trans ⟨fun h => h 0, fun h a => ?_⟩)
    rw [Fin.eq_zero a]; exact h
  by_cases h : off 0 ≤ (p 0).val ∧ (p 0).val < off 0 + 16
  · rw [if_pos h]
    obtain ⟨y, -, rfl⟩ := Finset.mem_map.1 (hiff.2 h)
    rw [View.write_emb_of_mem _ _ (Finset.mem_univ _)]
    rfl
  · rw [if_neg h]
    exact View.write_of_not_mem _ _ _ (fun hm => h (hiff.1 hm))

/-- Sixteen consecutive positions of the histogram read. -/
theorem row_read (off : Fin 1 → ℕ) (inb) (f : Vec F S65536 .f32) (t : ℕ) (ht : off 0 = 65520 - 16 * t) :
    ((aH.access (Rect.unit (s := S65536) off S16.size inb)).read (Elt F) f : Vec F S16 .f32) = row f t := by
  funext x
  have e : (((View.whole cc0_scratch1).slice (Rect.unit (s := S65536) off S16.size inb)).emb x 0 : Fin _).val = off 0 + (x 0).val :=
    ValueKit.view_emb_slice_whole_unit_val _ _ _ _ _ _
  show f (((View.whole cc0_scratch1).slice (Rect.unit (s := S65536) off S16.size inb)).emb x) = _
  refine congrArg f (idx1_ext ?_)
  rw [ix_val, ← ht]; exact e

/-- Sixteen consecutive words of a chunk read. -/
theorem chunk_read (off : Fin 1 → ℕ) (inb) (w : ℕ → BitVec 32) (k o t : ℕ) (ht : off 0 = 16 * t + o) :
    ((aB.access (Rect.unit (s := S40000) off S16.size inb)).read (Elt F) (chunk w k o) : Vec F S16 .i32) = vreg w (1250 * k + t) := by
  funext x
  have e : (((View.whole cc0_scratch0).slice (Rect.unit (s := S40000) off S16.size inb)).emb x 0 : Fin _).val = off 0 + (x 0).val :=
    ValueKit.view_emb_slice_whole_unit_val _ _ _ _ _ _
  show w (20000 * k + ((((View.whole cc0_scratch0).slice (Rect.unit (s := S40000) off S16.size inb)).emb x 0 : Fin _).val - o)) = w (16 * (1250 * k + t) + (x 0).val)
  rw [e, ht]; congr 1; omega

theorem acc_sub (off : Fin 1 → ℕ) (inb) (o t : ℕ) (hto : t < 1250) (ht : off 0 = 16 * t + o) :
    (aB.access (Rect.unit (s := S40000) off S16.size inb)).set ⊆ slotSet o := by
  intro p hp
  have h := Rect.mem_set_unit.1 ((ValueKit.mem_set_slice_whole_iff _ _ _ Iff.rfl).1 hp) 0
  have h1 : off 0 ≤ (p 0).val := h.1
  have h2 : (p 0).val < off 0 + 16 := h.2
  rw [mem_slotSet]; omega

/-! ## Zeroing the histogram -/

/-- The histogram `h` with its positions below `n` zeroed. -/
def zlow (h : Vec F S65536 .f32) (n : ℕ) : Vec F S65536 .f32 := fun p => if (p 0).val < n then zF else h p

/-- The histogram `h` with its top `n` positions zeroed. -/
def zhigh (h : Vec F S65536 .f32) (n : ℕ) : Vec F S65536 .f32 := fun p => if 65536 ≤ (p 0).val + n then zF else h p

theorem trips1 : k0_t1_loop.trips = 4096 := by decide +kernel
theorem trips2 : k0_t2_loop.trips = 25 := by decide +kernel
theorem trips3 : k0_t3_loop.trips = 1250 := by decide +kernel
theorem trips4 : k0_t4_loop.trips = 1250 := by decide +kernel
theorem trips5 : k0_t5_loop.trips = 4096 := by decide +kernel
theorem trips6 : k0_t6_loop.trips = 25 := by decide +kernel
theorem trips7 : k0_t7_loop.trips = 1250 := by decide +kernel
theorem trips8 : k0_t8_loop.trips = 1250 := by decide +kernel
theorem trips9 : k0_t9_loop.trips = 4096 := by decide +kernel

/-- One trip of the zeroing loop. -/
theorem step1 (h : Vec F S65536 .f32) (t : Fin k0_t1_loop.trips) (u : Unit) :
    (hLoc d L ↦{fullShare} zlow h (16 * t.val) : sProp 𝕄) ⊢ wpv d L (b1 L t u) fun _ => hLoc d L ↦{fullShare} zlow h (16 * (t.val + 1)) := by
  have e : (k0_off1 t) 0 = 16 * t.val := by rw [k0_off1_eq]; rfl
  unfold b1 k0_t1_body
  simp only [Prog.lift, Prog.bind_op, Prog.bind_ret, Prog.pure_eq_ret]
  iintro Hh
  iapply (wp_load_rect 𝒱₀ (tv d L) none Set.univ (m := aH) (r := Rect.unit (s := S65536) (k0_off1 t) S16.size (k0_off1_inb t)) (S := Finset.univ)
    (q := fullShare) (f := zlow h (16 * t.val)) (Finset.subset_univ _)) $$ Hh
  iintro Hh
  iapply (wp_store 𝒱₀ (tv d L) none Set.univ (m := aH) (r := Rect.unit (s := S65536) (k0_off1 t) S16.size (k0_off1_inb t)) (S := Finset.univ)
    (Mk := Finset.univ) (f := zlow h (16 * t.val)) (Finset.subset_univ _)) $$ Hh
  iintro Hh
  rw [wp_ret]
  rw [zero_write, show (fun p : S65536.Idx => if (k0_off1 t) 0 ≤ (p 0).val ∧ (p 0).val < (k0_off1 t) 0 + 16 then zF else zlow h (16 * t.val) p)
    = zlow h (16 * (t.val + 1)) from ?_]
  · imodintro; iexact Hh
  funext p
  rw [e]; unfold zlow
  by_cases h1 : (p 0).val < 16 * t.val
  · rw [if_neg (by omega), if_pos h1, if_pos (by omega)]
  · by_cases h2 : (p 0).val < 16 * t.val + 16
    · rw [if_pos (by omega), if_pos (by omega)]
    · rw [if_neg (by omega), if_neg h1, if_neg (by omega)]

/-! ## One vector of sixteen words -/

/-- An indexed addition into the tile's histogram, held whole. -/
theorem wp_scatter {α : Type} {Q : α → sProp 𝕄} {kk : PUnit → Prog (TpuEff nD τ sig (Elt F) Λ₀ (tv d L).2) α}
    (f : Vec F S65536 .f32) (idxs : Fin 1 → IVec S16 32) (v : Vec F S16 .f32) (mask : IVec S16 1)
    (h : ∀ a x, (idxs a x).toNat < S65536.size a) {hs : (aH.access (.whole S65536)).Stores Finset.univ} :
    (hLoc d L ↦{fullShare} f : sProp 𝕄)
      ⊢ iprop(((hLoc d L ↦{fullShare} storeIdx (s := S65536) f idxs v mask true h) -∗ wpv d L (kk ⟨⟩) Q)
        -∗ wpv d L (SparseCore.vectorStoreIdx aH idxs v mask true h hs >>= kk) Q) := by
  have hset : (aH.access (.whole S65536)).set = Finset.univ := Memref.set_access_whole (cc0_scratch1 : Ref sig .scVector)
  have hw : ((aH.access (.whole S65536)).write (Elt F) f
      (storeIdx ((aH.access (.whole S65536)).read (Elt F) f) idxs v mask true h) Finset.univ : Vec F S65536 .f32)
      = storeIdx (s := S65536) f idxs v mask true h :=
    (Memref.write_access_whole_univ (Elt F) (cc0_scratch1 : Ref sig .scVector) _ _).trans
      (congrArg (fun g : Vec F S65536 .f32 => storeIdx (s := S65536) g idxs v mask true h)
        (Memref.read_access_whole (Elt F) (cc0_scratch1 : Ref sig .scVector) f))
  have H := SparseCore.wp_vectorStoreIdx 𝒱₀ (tv d L) none Set.univ (base := aH) (f := f) (idxs := idxs) (v := v) (mask := mask)
    (add := true) (h := h) (hs := hs) (k := kk) (Q := Q) (defs := defs₀ (F := F)) (Ix := HIx 1) (Name := ℕ) (U := UU) (Lvl := ℕ)
  rw [hset, hw] at H
  exact H

/-- What a trip of a counting loop holds: the chunk it reads, the first histogram so far and the running sums. -/
def inv1 (w : ℕ → BitVec 32) (k o n : ℕ) (acc : FVec F S16 .f32) : sProp 𝕄 :=
  iprop(⌜acc = zsum w (1250 * k + n)⌝ ∗ (bLoc d L ↦[slotSet o]{fullShare} chunk w k o) ∗ hLoc d L ↦{fullShare} hist1 (F := F) w (1250 * k + n))

/-- One trip of the counting loop over the lower half of the double buffer, -/
theorem step3 (w : ℕ → BitVec 32) (k : ℕ) (t : Fin k0_t3_loop.trips) (acc : FVec F S16 .f32) :
    inv1 d L w k 0 t.val acc ⊢ wpv d L (b3 L t acc) (inv1 d L w k 0 (t.val + 1)) := by
  have ht : t.val < 1250 := trips3 ▸ t.isLt
  have e : (k0_off5 t) 0 = 16 * t.val + 0 := by rw [k0_off5_eq]; rfl
  unfold inv1 b3 k0_t3_body
  simp only [Prog.lift, Prog.bind_op, Prog.bind_ret, Prog.pure_eq_ret]
  iintro ⟨%hacc, Hb, Hh⟩
  iapply (wp_load_rect 𝒱₀ (tv d L) none Set.univ (m := aB) (r := Rect.unit (s := S40000) (k0_off5 t) S16.size (k0_off5_inb t)) (S := slotSet 0)
    (q := fullShare) (f := chunk w k 0) (acc_sub _ _ 0 t.val ht e)) $$ Hb
  iintro Hb
  rw [chunk_read _ _ w k 0 t.val e, wp_assume_of _ _ _ _ (chk1 (F := F) (vreg w (1250 * k + t.val)))]
  iapply (wp_scatter d L (hist1 (F := F) w (1250 * k + t.val)) _ _ _ _) $$ Hh
  iintro Hh
  rw [wpv, wp_ret]
  imodintro
  isplitr
  · ipureintro; rw [hacc]; rfl
  isplitl [Hb]; · iexact Hb
  iexact Hh

/-- and over the upper one. -/
theorem step4 (w : ℕ → BitVec 32) (k : ℕ) (t : Fin k0_t4_loop.trips) (acc : FVec F S16 .f32) :
    inv1 d L w k 20000 t.val acc ⊢ wpv d L (b4 L t acc) (inv1 d L w k 20000 (t.val + 1)) := by
  have ht : t.val < 1250 := trips4 ▸ t.isLt
  have e : (k0_off7 t) 0 = 16 * t.val + 20000 := by rw [k0_off7_eq]; rfl
  unfold inv1 b4 k0_t4_body
  simp only [Prog.lift, Prog.bind_op, Prog.bind_ret, Prog.pure_eq_ret]
  iintro ⟨%hacc, Hb, Hh⟩
  iapply (wp_load_rect 𝒱₀ (tv d L) none Set.univ (m := aB) (r := Rect.unit (s := S40000) (k0_off7 t) S16.size (k0_off7_inb t)) (S := slotSet 20000)
    (q := fullShare) (f := chunk w k 20000) (acc_sub _ _ 20000 t.val ht e)) $$ Hb
  iintro Hb
  rw [chunk_read _ _ w k 20000 t.val e, wp_assume_of _ _ _ _ (show k0_chk2 (k0_pay12 (vreg (F := F) w (1250 * k + t.val))) from chk1 (F := F) _)]
  iapply (wp_scatter d L (hist1 (F := F) w (1250 * k + t.val)) _ _ _ _) $$ Hh
  iintro Hh
  rw [wpv, wp_ret]
  imodintro
  isplitr
  · ipureintro; rw [hacc]; rfl
  isplitl [Hb]; · iexact Hb
  iexact Hh

/-- What a trip of a second-pass loop holds: the chunk it reads and the second histogram so far, of the first bin `c`. -/
def inv2 (w : ℕ → BitVec 32) (c : BitVec 32) (k o n : ℕ) : sProp 𝕄 :=
  iprop((bLoc d L ↦[slotSet o]{fullShare} chunk w k o) ∗ hLoc d L ↦{fullShare} hist2 (F := F) w c (1250 * k + n))

/-- One trip of the second-pass loop over the lower half, -/
theorem step7 (w : ℕ → BitVec 32) (c : BitVec 32) (k : ℕ) (v3 : FVec F S16 .f32) (v4 : BitVec 32) (v12 : FVec F S16 .f32) (v41 : F .f32)
    (t : Fin k0_t7_loop.trips) (u : Unit) :
    inv2 d L w c k 0 t.val ⊢ wpv d L (b7 L lanes v3 v4 v12 v41 c t u) fun _ => inv2 d L w c k 0 (t.val + 1) := by
  have ht : t.val < 1250 := trips7 ▸ t.isLt
  have e : (k0_off11 t) 0 = 16 * t.val + 0 := by rw [k0_off11_eq]; rfl
  unfold inv2 b7 k0_t7_body
  simp only [Prog.lift, Prog.bind_op, Prog.bind_ret, Prog.pure_eq_ret]
  iintro ⟨Hb, Hh⟩
  iapply (wp_load_rect 𝒱₀ (tv d L) none Set.univ (m := aB) (r := Rect.unit (s := S40000) (k0_off11 t) S16.size (k0_off11_inb t)) (S := slotSet 0)
    (q := fullShare) (f := chunk w k 0) (acc_sub _ _ 0 t.val ht e)) $$ Hb
  iintro Hb
  rw [chunk_read _ _ w k 0 t.val e, wp_assume_of _ _ _ _ (chk3 (F := F) (vreg w (1250 * k + t.val)))]
  iapply (wp_scatter d L (hist2 (F := F) w c (1250 * k + t.val)) _ _ _ _) $$ Hh
  iintro Hh
  rw [wpv, wp_ret]
  imodintro
  isplitl [Hb]; · iexact Hb
  iexact Hh

/-- and over the upper one. -/
theorem step8 (w : ℕ → BitVec 32) (c : BitVec 32) (k : ℕ) (v3 : FVec F S16 .f32) (v4 : BitVec 32) (v12 : FVec F S16 .f32) (v41 : F .f32)
    (t : Fin k0_t8_loop.trips) (u : Unit) :
    inv2 d L w c k 20000 t.val ⊢ wpv d L (b8 L lanes v3 v4 v12 v41 c t u) fun _ => inv2 d L w c k 20000 (t.val + 1) := by
  have ht : t.val < 1250 := trips8 ▸ t.isLt
  have e : (k0_off13 t) 0 = 16 * t.val + 20000 := by rw [k0_off13_eq]; rfl
  unfold inv2 b8 k0_t8_body
  simp only [Prog.lift, Prog.bind_op, Prog.bind_ret, Prog.pure_eq_ret]
  iintro ⟨Hb, Hh⟩
  iapply (wp_load_rect 𝒱₀ (tv d L) none Set.univ (m := aB) (r := Rect.unit (s := S40000) (k0_off13 t) S16.size (k0_off13_inb t)) (S := slotSet 20000)
    (q := fullShare) (f := chunk w k 20000) (acc_sub _ _ 20000 t.val ht e)) $$ Hb
  iintro Hb
  rw [chunk_read _ _ w k 20000 t.val e, wp_assume_of _ _ _ _ (show k0_chk4 (k0_pay29 lanes (vreg (F := F) w (1250 * k + t.val))) from chk3 (F := F) _)]
  iapply (wp_scatter d L (hist2 (F := F) w c (1250 * k + t.val)) _ _ _ _) $$ Hh
  iintro Hh
  rw [wpv, wp_ret]
  imodintro
  isplitl [Hb]; · iexact Hb
  iexact Hh

/-! ## One step of the descending scan -/

/-- What a trip of a scan holds: the histogram with the bins scanned zeroed, and the scan's carry. -/
def inv3 (v12 : FVec F S16 .f32) (h : Vec F S65536 .f32) (a₀ : Carry F) (n : ℕ) (a : Carry F) : sProp 𝕄 :=
  iprop(⌜a = scan v12 h a₀ n⌝ ∗ hLoc d L ↦{fullShare} zhigh h (16 * n))

theorem row_zhigh (h : Vec F S65536 .f32) (t : ℕ) (ht : t < 4096) : row (zhigh h (16 * t)) t = row h t := by
  funext x
  have hx : (x 0).val < 16 := (x 0).isLt
  unfold row zhigh
  rw [if_neg (by rw [ix_val]; omega)]

theorem zhigh_step (h : Vec F S65536 .f32) (t : ℕ) (ht : t < 4096) :
    (fun p : S65536.Idx => if 65520 - 16 * t ≤ (p 0).val ∧ (p 0).val < 65520 - 16 * t + 16 then zF else zhigh h (16 * t) p)
      = zhigh h (16 * (t + 1)) := by
  funext p
  have hp : (p 0).val < 65536 := (p 0).isLt
  unfold zhigh
  by_cases h1 : 65536 ≤ (p 0).val + 16 * t
  · rw [if_neg (by omega), if_pos h1, if_pos (by omega)]
  · by_cases h2 : 65536 ≤ (p 0).val + 16 * (t + 1)
    · rw [if_pos (by omega), if_pos (by omega)]
    · rw [if_neg (by omega), if_neg h1, if_neg (by omega)]

theorem bin_of_trip (t : ℕ) :
    Scalar.subi 4095#32 (Scalar.addi 0#32 (Scalar.muli (0#32 + BitVec.ofNat 32 t * 1#32) 1#32)) = Scalar.subi 4095#32 (BitVec.ofNat 32 t) := by
  refine congrArg (Scalar.subi 4095#32) ?_
  show 0#32 + (0#32 + BitVec.ofNat 32 t * 1#32) * 1#32 = BitVec.ofNat 32 t
  simp

/-- One trip of the first scan. -/
theorem step5 (v12 : FVec F S16 .f32) (h : Vec F S65536 .f32) (a₀ : Carry F) (v2 : IVec S16 32) (v4 : BitVec 32)
    (t : Fin k0_t5_loop.trips) (a : Carry F) :
    inv3 d L v12 h a₀ t.val a ⊢ wpv d L (b5 L v2 k0_pay5 v4 v12 (k0_pay14 v12) t a) (inv3 d L v12 h a₀ (t.val + 1)) := by
  have ht : t.val < 4096 := trips5 ▸ t.isLt
  have e : (k0_off8 t) 0 = 65520 - 16 * t.val := by rw [k0_off8_eq]; rfl
  obtain ⟨a1, a2, a3, a4⟩ := a
  unfold inv3 b5 k0_t5_body
  simp only [k0_part1_eq_skeleton, k0_part1_skel, Prog.lift, Prog.bind_op, Prog.bind_ret, Prog.pure_eq_ret]
  iintro ⟨%hacc, Hh⟩
  iapply (wp_load_rect 𝒱₀ (tv d L) none Set.univ (m := aH) (r := Rect.unit (s := S65536) (k0_off8 t) S16.size (k0_off8_inb t)) (S := Finset.univ)
    (q := fullShare) (f := zhigh h (16 * t.val)) (Finset.subset_univ _)) $$ Hh
  iintro Hh
  rw [row_read _ _ _ t.val e, row_zhigh h t.val ht]
  iapply (wp_load_rect 𝒱₀ (tv d L) none Set.univ (m := aH) (r := Rect.unit (s := S65536) (k0_off8 t) S16.size (k0_off8_inb t)) (S := Finset.univ)
    (q := fullShare) (f := zhigh h (16 * t.val)) (Finset.subset_univ _)) $$ Hh
  iintro Hh
  iapply (wp_store 𝒱₀ (tv d L) none Set.univ (m := aH) (r := Rect.unit (s := S65536) (k0_off8 t) S16.size (k0_off8_inb t)) (S := Finset.univ)
    (Mk := Finset.univ) (f := zhigh h (16 * t.val)) (Finset.subset_univ _)) $$ Hh
  iintro Hh
  rw [zero_write, e, zhigh_step h t.val ht, wp_ret]
  imodintro
  isplitr
  · ipureintro
    show _ = sstep v12 _ _ (scan v12 h a₀ t.val)
    rw [← hacc, ← bin_of_trip]; rfl
  iexact Hh

/-- One trip of the second scan. -/
theorem step9 (v12 : FVec F S16 .f32) (h : Vec F S65536 .f32) (a₀ : Carry F) (v2 : IVec S16 32) (v4 : BitVec 32)
    (t : Fin k0_t9_loop.trips) (a : Carry F) :
    inv3 d L v12 h a₀ t.val a ⊢ wpv d L (b9 L v2 k0_pay5 v4 v12 (k0_pay14 v12) t a) (inv3 d L v12 h a₀ (t.val + 1)) := by
  have ht : t.val < 4096 := trips9 ▸ t.isLt
  have e : (k0_off14 t) 0 = 65520 - 16 * t.val := by rw [k0_off14_eq]; rfl
  obtain ⟨a1, a2, a3, a4⟩ := a
  unfold inv3 b9 k0_t9_body
  simp only [k0_part2_eq_skeleton, k0_part2_skel, Prog.lift, Prog.bind_op, Prog.bind_ret, Prog.pure_eq_ret]
  iintro ⟨%hacc, Hh⟩
  iapply (wp_load_rect 𝒱₀ (tv d L) none Set.univ (m := aH) (r := Rect.unit (s := S65536) (k0_off14 t) S16.size (k0_off14_inb t)) (S := Finset.univ)
    (q := fullShare) (f := zhigh h (16 * t.val)) (Finset.subset_univ _)) $$ Hh
  iintro Hh
  rw [row_read _ _ _ t.val e, row_zhigh h t.val ht]
  iapply (wp_load_rect 𝒱₀ (tv d L) none Set.univ (m := aH) (r := Rect.unit (s := S65536) (k0_off14 t) S16.size (k0_off14_inb t)) (S := Finset.univ)
    (q := fullShare) (f := zhigh h (16 * t.val)) (Finset.subset_univ _)) $$ Hh
  iintro Hh
  iapply (wp_store 𝒱₀ (tv d L) none Set.univ (m := aH) (r := Rect.unit (s := S65536) (k0_off14 t) S16.size (k0_off14_inb t)) (S := Finset.univ)
    (Mk := Finset.univ) (f := zhigh h (16 * t.val)) (Finset.subset_univ _)) $$ Hh
  iintro Hh
  rw [zero_write, e, zhigh_step h t.val ht, wp_ret]
  imodintro
  isplitr
  · ipureintro
    show _ = sstep v12 _ _ (scan v12 h a₀ t.val)
    rw [← hacc, ← bin_of_trip]; rfl
  iexact Hh

end Cert.Proof
-- ==== Proof.Pairs.lean ====
/- The bodies of one tile's two loops over pairs of chunks: while one half of the double buffer is counted, the other
   half's chunk is on its way. -/
module

public import proofs.«01_k».proof.Proof.Loops

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)

/-- The lower half of the double buffer before pair `n`: its chunk is on its way, or after the last pair it rests. -/
def lower (X : Buf (Elt F) (xLoc d L)) (n : ℕ) : sProp 𝕄 :=
  if n < 25 then FL d L X fullShare.left cc0_scratch4.sem 0 (2 * n)
  else iprop((xLoc d L ↦[xset (rowOf L)]{fullShare.left} X) ∗ (∃ f, bLoc d L ↦[slotSet 0]{fullShare} f) ∗ semVal (cell0 d L) 0)

/-- The upper half between two pairs: it rests. -/
def upper (X : Buf (Elt F) (xLoc d L)) : sProp 𝕄 :=
  iprop((xLoc d L ↦[xset (rowOf L)]{fullShare.right} X) ∗ (∃ f, bLoc d L ↦[slotSet 20000]{fullShare} f) ∗ semVal (cell1 d L) 0)

/-- What the thread owes, having waited at transfers only since `W`. -/
def owing (O : CellTallies nD τ sig (HIx 1)) (W : Waits sig (HIx 1)) : sProp 𝕄 :=
  iprop(∃ W', ⌜∀ p ∈ W', p ∈ W ∨ p.2 = none⌝ ∗ owes (tv d L) O W')

theorem cond1_iff : ∀ t : Fin k0_t2_loop.trips, k0_cond1 t = 1#1 ↔ t.val + 1 < 25 := by decide +kernel
theorem cond2_iff : ∀ t : Fin k0_t6_loop.trips, k0_cond2 t = 1#1 ↔ t.val + 1 < 25 := by decide +kernel

theorem cond_insert {W W' : Waits sig (HIx 1)} {sm : SemLoc sig} (h : ∀ p ∈ W', p ∈ W ∨ p.2 = none) :
    ∀ p ∈ insert (sm, (none : HIx 1)) W', p ∈ W ∨ p.2 = none := by
  intro p hp
  rcases Finset.mem_insert.1 hp with rfl | hp
  · exact Or.inr rfl
  · exact h p hp

/-- What the first pass holds between two pairs. -/
def invA (X : Buf (Elt F) (xLoc d L)) (O : CellTallies nD τ sig (HIx 1)) (W : Waits sig (HIx 1)) (n : ℕ) (acc : FVec F S16 .f32) : sProp 𝕄 :=
  iprop(levAts (K (F := F)).L (K (F := F)).lev ∗ ⌜acc = zsum (words X (rowOf L)) (2500 * n)⌝ ∗ lower d L X n ∗ upper d L X
    ∗ (hLoc d L ↦{fullShare} hist1 (F := F) (words X (rowOf L)) (2500 * n)) ∗ owing d L O W)

theorem off3_at (t : Fin k0_t2_loop.trips) : (k0_off4 L t) 0 = 1000000 * rowOf L + 20000 * (2 * t.val + 1) := by
  rw [k0_off4_eq]; show 16000000 * (L 0).val + 1000000 * (L 1).val + 40000 * t.val + 20000 = _; unfold rowOf; omega
theorem off6_at (t : Fin k0_t2_loop.trips) : (k0_off6 L t) 0 = 1000000 * rowOf L + 20000 * (2 * (t.val + 1)) := by
  rw [k0_off6_eq]; show 16000000 * (L 0).val + 1000000 * (L 1).val + 40000 * t.val + 40000 = _; unfold rowOf; omega
theorem off10_at (t : Fin k0_t6_loop.trips) : (k0_off10 L t) 0 = 1000000 * rowOf L + 20000 * (2 * t.val + 1) := by
  rw [k0_off10_eq]; show 16000000 * (L 0).val + 1000000 * (L 1).val + 40000 * t.val + 20000 = _; unfold rowOf; omega
theorem off12_at (t : Fin k0_t6_loop.trips) : (k0_off12 L t) 0 = 1000000 * rowOf L + 20000 * (2 * (t.val + 1)) := by
  rw [k0_off12_eq]; show 16000000 * (L 0).val + 1000000 * (L 1).val + 40000 * t.val + 40000 = _; unfold rowOf; omega
theorem off2_at : (k0_off2 L) 0 = 1000000 * rowOf L + 20000 * (2 * 0) := by
  rw [k0_off2_eq]; show 16000000 * (L 0).val + 1000000 * (L 1).val = _; unfold rowOf; omega

/-- A first pass's pair from its second chunk's arrival on: the counting of that chunk. -/
theorem tail2 (X : Buf (Elt F) (xLoc d L)) (O : CellTallies nD τ sig (HIx 1)) (W W' : Waits sig (HIx 1)) (hW' : ∀ p ∈ W', p ∈ W ∨ p.2 = none)
    (n : ℕ) (a1 : FVec F S16 .f32) (ha1 : a1 = zsum (words X (rowOf L)) (1250 * (2 * n) + 1250)) :
    iprop(levAts (K (F := F)).L (K (F := F)).lev ∗ lower d L X (n + 1) ∗ (hLoc d L ↦{fullShare} hist1 (F := F) (words X (rowOf L)) (1250 * (2 * n) + 1250))
        ∗ (xLoc d L ↦[xset (rowOf L)]{fullShare.right} X) ∗ (bLoc d L ↦[slotSet 20000]{fullShare} chunk (words X (rowOf L)) (2 * n + 1) 20000)
        ∗ semVal (cell1 d L) 0 ∗ owes (tv d L) O W')
      ⊢ wpv d L (Scf.Loop.for k0_t4_loop k0_t4_ok a1 (b4 L) >>= fun v => Prog.ret v) (invA d L X O W (n + 1)) := by
  iintro ⟨#Hlv, Hlo, Hh, Hxr, Hb1, Hs1, HO⟩
  iapply (Scf.wp_for_bind frame (wpE defs₀ 𝒱₀ (tv d L) none) Set.univ _ _ _ _ _ _ (inv1 d L (words X (rowOf L)) (2 * n + 1) 20000)
    (fun s a => step4 d L (words X (rowOf L)) (2 * n + 1) s a)) $$ [Hb1 Hh]
  · unfold inv1
    isplitr; · ipureintro; rw [ha1]; congr 1
    isplitl [Hb1]; · iexact Hb1
    rw [show 1250 * (2 * n + 1) + 0 = 1250 * (2 * n) + 1250 by omega]; iexact Hh
  iintro %a2 HI
  rw [show Scf.trips k0_t4_loop.lb k0_t4_loop.ub k0_t4_loop.st = 1250 from trips4]
  unfold inv1
  icases HI with ⟨%ha2, Hb1, Hh⟩
  rw [wp_ret]
  imodintro
  unfold invA upper owing
  isplitr; · iexact Hlv
  isplitr; · ipureintro; rw [ha2]; congr 1; omega
  isplitl [Hlo]; · iexact Hlo
  isplitl [Hxr Hb1 Hs1]
  · isplitl [Hxr]; · iexact Hxr
    isplitl [Hb1]
    · iexists _; iexact Hb1
    iexact Hs1
  isplitl [Hh]
  · rw [show 2500 * (n + 1) = 1250 * (2 * n + 1) + 1250 by omega]; iexact Hh
  iexists W'
  isplitr; · ipureintro; exact hW'
  iexact HO

/-- One pair of the first pass. -/
theorem step2 (X : Buf (Elt F) (xLoc d L)) (O : CellTallies nD τ sig (HIx 1)) (W : Waits sig (HIx 1)) (hO : ∀ g, O g none = 0)
    (t : Fin k0_t2_loop.trips) (acc : FVec F S16 .f32) :
    invA d L X O W t.val acc ⊢ wpv d L (b2 L t acc) (invA d L X O W (t.val + 1)) := by
  have ht : t.val < 25 := trips2 ▸ t.isLt
  unfold invA b2 k0_t2_body
  simp only [Prog.lift, Prog.bind_op, Prog.bind_ret, Prog.pure_eq_ret]
  rw [show lower d L X t.val = FL d L X fullShare.left cc0_scratch4.sem 0 (2 * t.val) from if_pos ht]
  unfold upper owing
  iintro ⟨#Hlv, %hacc, Hlo, ⟨Hxr, ⟨%f1, Hb1⟩, Hs1⟩, Hh, ⟨%W', %hW', HO⟩⟩
  -- the lower half's chunk has arrived
  iapply (finish d L X fullShare.left cc0_scratch4.sem 0 (2 * t.val) (by omega) _ _ _ hO) $$ [Hlo HO]
  · isplitr; · iexact Hlv
    isplitl [Hlo]; · iexact Hlo
    iexact HO
  iintro ⟨Hxl, Hb0, Hs0, HO⟩
  -- the upper half's chunk sets out
  iapply (start d L X fullShare.right cc0_scratch5.sem 20000 (2 * t.val + 1) (by omega) _ _ _ (off3_at L t) f1) $$ [Hxr Hb1 Hs1]
  · isplitl [Hxr]; · iexact Hxr
    isplitl [Hb1]; · iexact Hb1
    iexact Hs1
  iintro Hup
  iapply (Scf.wp_for_bind frame (wpE defs₀ 𝒱₀ (tv d L) none) Set.univ _ _ _ _ _ _ (inv1 d L (words X (rowOf L)) (2 * t.val) 0)
    (fun s a => step3 d L (words X (rowOf L)) (2 * t.val) s a)) $$ [Hb0 Hh]
  · unfold inv1
    isplitr; · ipureintro; rw [hacc]; congr 1; omega
    isplitl [Hb0]; · iexact Hb0
    rw [show 1250 * (2 * t.val) + 0 = 2500 * t.val by omega]; iexact Hh
  iintro %a1 HI
  rw [show Scf.trips k0_t3_loop.lb k0_t3_loop.ub k0_t3_loop.st = 1250 from trips3]
  unfold inv1
  icases HI with ⟨%ha1, Hb0, Hh⟩
  -- the upper half's chunk has arrived
  iapply (finish d L X fullShare.right cc0_scratch5.sem 20000 (2 * t.val + 1) (by omega) _ _ _ hO) $$ [Hup HO]
  · isplitr; · iexact Hlv
    isplitl [Hup]; · iexact Hup
    iexact HO
  iintro ⟨Hxr, Hb1, Hs1, HO⟩
  -- the next pair's first chunk sets out, if there is a next pair
  by_cases hc : k0_cond1 t = 1#1
  · rw [dif_pos hc]
    iapply (start d L X fullShare.left cc0_scratch4.sem 0 (2 * (t.val + 1)) (by have := (cond1_iff t).1 hc; omega) _ _ _ (off6_at L t) _) $$ [Hxl Hb0 Hs0]
    · isplitl [Hxl]; · iexact Hxl
      isplitl [Hb0]; · iexact Hb0
      iexact Hs0
    iintro Hlo
    iapply (tail2 d L X O W _ (cond_insert (cond_insert hW')) t.val a1 ha1)
    isplitr; · iexact Hlv
    isplitl [Hlo]; · rw [lower, if_pos ((cond1_iff t).1 hc)]; iexact Hlo
    isplitl [Hh]; · iexact Hh
    isplitl [Hxr]; · iexact Hxr
    isplitl [Hb1]; · iexact Hb1
    isplitl [Hs1]; · iexact Hs1
    iexact HO
  · rw [dif_neg hc]
    iapply (tail2 d L X O W _ (cond_insert (cond_insert hW')) t.val a1 ha1)
    isplitr; · iexact Hlv
    isplitl [Hxl Hb0 Hs0]
    · rw [lower, if_neg (fun h => hc ((cond1_iff t).2 h))]
      isplitl [Hxl]; · iexact Hxl
      isplitl [Hb0]
      · iexists _; iexact Hb0
      iexact Hs0
    isplitl [Hh]; · iexact Hh
    isplitl [Hxr]; · iexact Hxr
    isplitl [Hb1]; · iexact Hb1
    isplitl [Hs1]; · iexact Hs1
    iexact HO

/-- What the second pass holds between two pairs, for the first bin `c`. -/
def invB (X : Buf (Elt F) (xLoc d L)) (O : CellTallies nD τ sig (HIx 1)) (W : Waits sig (HIx 1)) (c : BitVec 32) (n : ℕ) : sProp 𝕄 :=
  iprop(levAts (K (F := F)).L (K (F := F)).lev ∗ lower d L X n ∗ upper d L X
    ∗ (hLoc d L ↦{fullShare} hist2 (F := F) (words X (rowOf L)) c (2500 * n)) ∗ owing d L O W)

section
variable (v3 : FVec F S16 .f32) (v4 : BitVec 32) (v12 : FVec F S16 .f32) (v41 : F .f32)

/-- A second pass's pair from its second chunk's arrival on. -/
theorem tail6 (X : Buf (Elt F) (xLoc d L)) (O : CellTallies nD τ sig (HIx 1)) (W W' : Waits sig (HIx 1)) (hW' : ∀ p ∈ W', p ∈ W ∨ p.2 = none)
    (c : BitVec 32) (n : ℕ) :
    iprop(levAts (K (F := F)).L (K (F := F)).lev ∗ lower d L X (n + 1) ∗ (hLoc d L ↦{fullShare} hist2 (F := F) (words X (rowOf L)) c (1250 * (2 * n) + 1250))
        ∗ (xLoc d L ↦[xset (rowOf L)]{fullShare.right} X) ∗ (bLoc d L ↦[slotSet 20000]{fullShare} chunk (words X (rowOf L)) (2 * n + 1) 20000)
        ∗ semVal (cell1 d L) 0 ∗ owes (tv d L) O W')
      ⊢ wpv d L (Scf.Loop.for k0_t8_loop k0_t8_ok () (b8 L lanes v3 v4 v12 v41 c) >>= fun _ => (Prog.ret () : Prog _ Unit)) fun _ => invB d L X O W c (n + 1) := by
  iintro ⟨#Hlv, Hlo, Hh, Hxr, Hb1, Hs1, HO⟩
  iapply (Scf.wp_for_bind frame (wpE defs₀ 𝒱₀ (tv d L) none) Set.univ _ _ _ _ _ _ (fun m _ => inv2 d L (words X (rowOf L)) c (2 * n + 1) 20000 m)
    (fun s a => step8 d L (words X (rowOf L)) c (2 * n + 1) v3 v4 v12 v41 s a)) $$ [Hb1 Hh]
  · unfold inv2
    isplitl [Hb1]; · iexact Hb1
    rw [show 1250 * (2 * n + 1) + 0 = 1250 * (2 * n) + 1250 by omega]; iexact Hh
  iintro %a2 HI
  rw [show Scf.trips k0_t8_loop.lb k0_t8_loop.ub k0_t8_loop.st = 1250 from trips8]
  unfold inv2
  icases HI with ⟨Hb1, Hh⟩
  rw [wp_ret]
  imodintro
  unfold invB upper owing
  isplitr; · iexact Hlv
  isplitl [Hlo]; · iexact Hlo
  isplitl [Hxr Hb1 Hs1]
  · isplitl [Hxr]; · iexact Hxr
    isplitl [Hb1]
    · iexists _; iexact Hb1
    iexact Hs1
  isplitl [Hh]
  · rw [show 2500 * (n + 1) = 1250 * (2 * n + 1) + 1250 by omega]; iexact Hh
  iexists W'
  isplitr; · ipureintro; exact hW'
  iexact HO

/-- One pair of the second pass. -/
theorem step6 (X : Buf (Elt F) (xLoc d L)) (O : CellTallies nD τ sig (HIx 1)) (W : Waits sig (HIx 1)) (hO : ∀ g, O g none = 0)
    (c : BitVec 32) (t : Fin k0_t6_loop.trips) (u : Unit) :
    invB d L X O W c t.val ⊢ wpv d L (b6 L lanes v3 v4 v12 v41 c t u) fun _ => invB d L X O W c (t.val + 1) := by
  have ht : t.val < 25 := trips6 ▸ t.isLt
  unfold invB b6 k0_t6_body
  simp only [Prog.lift, Prog.bind_op, Prog.bind_ret, Prog.pure_eq_ret]
  rw [show lower d L X t.val = FL d L X fullShare.left cc0_scratch4.sem 0 (2 * t.val) from if_pos ht]
  unfold upper owing
  iintro ⟨#Hlv, Hlo, ⟨Hxr, ⟨%f1, Hb1⟩, Hs1⟩, Hh, ⟨%W', %hW', HO⟩⟩
  iapply (finish d L X fullShare.left cc0_scratch4.sem 0 (2 * t.val) (by omega) _ _ _ hO) $$ [Hlo HO]
  · isplitr; · iexact Hlv
    isplitl [Hlo]; · iexact Hlo
    iexact HO
  iintro ⟨Hxl, Hb0, Hs0, HO⟩
  iapply (start d L X fullShare.right cc0_scratch5.sem 20000 (2 * t.val + 1) (by omega) _ _ _ (off10_at L t) f1) $$ [Hxr Hb1 Hs1]
  · isplitl [Hxr]; · iexact Hxr
    isplitl [Hb1]; · iexact Hb1
    iexact Hs1
  iintro Hup
  iapply (Scf.wp_for_bind frame (wpE defs₀ 𝒱₀ (tv d L) none) Set.univ _ _ _ _ _ _ (fun m _ => inv2 d L (words X (rowOf L)) c (2 * t.val) 0 m)
    (fun s a => step7 d L (words X (rowOf L)) c (2 * t.val) v3 v4 v12 v41 s a)) $$ [Hb0 Hh]
  · unfold inv2
    isplitl [Hb0]; · iexact Hb0
    rw [show 1250 * (2 * t.val) + 0 = 2500 * t.val by omega]; iexact Hh
  iintro %a1 HI
  rw [show Scf.trips k0_t7_loop.lb k0_t7_loop.ub k0_t7_loop.st = 1250 from trips7]
  unfold inv2
  icases HI with ⟨Hb0, Hh⟩
  iapply (finish d L X fullShare.right cc0_scratch5.sem 20000 (2 * t.val + 1) (by omega) _ _ _ hO) $$ [Hup HO]
  · isplitr; · iexact Hlv
    isplitl [Hup]; · iexact Hup
    iexact HO
  iintro ⟨Hxr, Hb1, Hs1, HO⟩
  by_cases hc : k0_cond2 t = 1#1
  · rw [dif_pos hc]
    iapply (start d L X fullShare.left cc0_scratch4.sem 0 (2 * (t.val + 1)) (by have := (cond2_iff t).1 hc; omega) _ _ _ (off12_at L t) _) $$ [Hxl Hb0 Hs0]
    · isplitl [Hxl]; · iexact Hxl
      isplitl [Hb0]; · iexact Hb0
      iexact Hs0
    iintro Hlo
    iapply (tail6 d L v3 v4 v12 v41 X O W _ (cond_insert (cond_insert hW')) c t.val)
    isplitr; · iexact Hlv
    isplitl [Hlo]; · rw [lower, if_pos ((cond2_iff t).1 hc)]; iexact Hlo
    isplitl [Hh]; · iexact Hh
    isplitl [Hxr]; · iexact Hxr
    isplitl [Hb1]; · iexact Hb1
    isplitl [Hs1]; · iexact Hs1
    iexact HO
  · rw [dif_neg hc]
    iapply (tail6 d L v3 v4 v12 v41 X O W _ (cond_insert (cond_insert hW')) c t.val)
    isplitr; · iexact Hlv
    isplitl [Hxl Hb0 Hs0]
    · rw [lower, if_neg (fun h => hc ((cond2_iff t).2 h))]
      isplitl [Hxl]; · iexact Hxl
      isplitl [Hb0]
      · iexists _; iexact Hb0
      iexact Hs0
    isplitl [Hh]; · iexact Hh
    isplitl [Hxr]; · iexact Hxr
    isplitl [Hb1]; · iexact Hb1
    isplitl [Hs1]; · iexact Hs1
    iexact HO
end

end Cert.Proof
-- ==== Proof.Tile.lean ====
/- One tile's whole run: from its row of words to the key threshold and the kept mass it writes out. -/
module

public import proofs.«01_k».proof.Proof.Pairs

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)

/-- A sixteen-word scratch buffer, written whole with one value in every lane. -/
theorem kb_write (f : Buf (Elt F) (kbLoc d L)) (inb) (v : BitVec 32) :
    ((aKb.access (Rect.unit (s := S16) ![0] S16.size inb)).write (Elt F) f (k0_pay1 v) Finset.univ : Vec F S16 .i32) = fun _ => v := by
  funext p
  have hm : p ∈ (aKb.access (Rect.unit (s := S16) ![0] S16.size inb)).set := by
    refine (ValueKit.mem_set_slice_whole_iff _ _ _ Iff.rfl).2 (Rect.mem_set_unit.2 fun a => ?_)
    rw [Fin.eq_zero a]
    exact ⟨Nat.zero_le _, by have h : (p 0).val < 16 := (p 0).isLt; show (p 0).val < 0 + 16; omega⟩
  obtain ⟨y, -, rfl⟩ := Finset.mem_map.1 hm
  rw [View.write_emb_of_mem _ _ (Finset.mem_univ _)]
  rfl
theorem sb_write (f : Buf (Elt F) (sbLoc d L)) (inb) (v : F .f32) :
    ((aSb.access (Rect.unit (s := S16) ![0] S16.size inb)).write (Elt F) f (k0_pay2 v) Finset.univ : Vec F S16 .f32) = fun _ => v := by
  funext p
  have hm : p ∈ (aSb.access (Rect.unit (s := S16) ![0] S16.size inb)).set := by
    refine (ValueKit.mem_set_slice_whole_iff _ _ _ Iff.rfl).2 (Rect.mem_set_unit.2 fun a => ?_)
    rw [Fin.eq_zero a]
    exact ⟨Nat.zero_le _, by have h : (p 0).val < 16 := (p 0).isLt; show (p 0).val < 0 + 16; omega⟩
  obtain ⟨y, -, rfl⟩ := Finset.mem_map.1 hm
  rw [View.write_emb_of_mem _ _ (Finset.mem_univ _)]
  rfl

theorem off15_at : (k0_off15 L) 0 = 16 * rowOf L := by
  rw [k0_off15_eq]; show 256 * (L 0).val + 16 * (L 1).val = _; unfold rowOf; omega

theorem mem_out {p : S512.Idx} : p ∈ (Rect.unit (s := S512) (k0_off15 L) S16.size (k0_off15_inb L)).set ↔ p ∈ oset (rowOf L) := by
  rw [mem_oset]
  have e : ∀ P : Prop, ((k0_off15 L) 0 ≤ (p 0).val ∧ (p 0).val < (k0_off15 L) 0 + 16) = P →
      (p ∈ (Rect.unit (s := S512) (k0_off15 L) S16.size (k0_off15_inb L)).set ↔ P) := by
    rintro _ rfl
    refine Rect.mem_set_unit.trans ⟨fun h => h 0, fun h a => ?_⟩
    rw [Fin.eq_zero a]; exact h
  refine e _ (propext ?_)
  rw [off15_at]; omega

theorem kout_set : (aK.slice (Rect.unit (s := S512) (k0_off15 L) S16.size (k0_off15_inb L)) (fun _ => rfl)).view.set = oset (rowOf L) := by
  refine (View.set_slice_whole _ _).trans ?_
  ext p; exact mem_out L
theorem sout_set : (aS.slice (Rect.unit (s := S512) (k0_off15 L) S16.size (k0_off15_inb L)) (fun _ => rfl)).view.set = oset (rowOf L) := by
  refine (View.set_slice_whole _ _).trans ?_
  ext p; exact mem_out L

/-- A constant scratch buffer copied to the tile's sixteen words of a result leaves the constant there. -/
theorem kout_write (f : Buf (Elt F) (kLoc d L)) (v : BitVec 32) (p : S512.Idx) (hp : p ∈ oset (rowOf L)) :
    ((aK.slice (Rect.unit (s := S512) (k0_off15 L) S16.size (k0_off15_inb L)) (fun _ => rfl)).view.write (Elt F) f
      (ReadAs.same.apply (aKb.view.read (Elt F) (fun _ => v))) Finset.univ) p = v := by
  rw [← kout_set] at hp
  obtain ⟨y, -, rfl⟩ := Finset.mem_map.1 hp
  rw [View.write_emb_of_mem _ _ (Finset.mem_univ _)]
  rfl
theorem sout_write (f : Buf (Elt F) (sLoc d L)) (v : F .f32) (p : S512.Idx) (hp : p ∈ oset (rowOf L)) :
    ((aS.slice (Rect.unit (s := S512) (k0_off15 L) S16.size (k0_off15_inb L)) (fun _ => rfl)).view.write (Elt F) f
      (ReadAs.same.apply (aSb.view.read (Elt F) (fun _ => v))) Finset.univ) p = v := by
  rw [← sout_set] at hp
  obtain ⟨y, -, rfl⟩ := Finset.mem_map.1 hp
  rw [View.write_emb_of_mem _ _ (Finset.mem_univ _)]
  rfl

theorem zhigh_all (h : Vec F S65536 .f32) : zhigh h 65536 = hist0 := by
  funext p; exact if_pos (by omega)
theorem zlow_all (h : Vec F S65536 .f32) : zlow h 65536 = hist0 := by
  funext p
  have hp : (p 0).val < 65536 := (p 0).isLt
  exact if_pos hp
theorem zhigh_zero (h : Vec F S65536 .f32) : zhigh h 0 = h := by
  funext p
  have hp : (p 0).val < 65536 := (p 0).isLt
  exact if_neg (by omega)
theorem zlow_zero (h : Vec F S65536 .f32) : zlow h 0 = h := by
  funext p
  exact if_neg (by omega)

/-- The double buffer is its two halves. -/
theorem halves : (Finset.univ : Finset S40000.Idx) \ slotSet 0 = slotSet 20000 := by
  ext p
  have hp : (p 0).val < 40000 := (p 0).isLt
  simp only [Finset.mem_sdiff, Finset.mem_univ, true_and, mem_slotSet]; omega

/-- What a tile gives back: its sixteen words of both results. -/
def tileOut (X : Buf (Elt F) (xLoc d L)) : sProp 𝕄 :=
  iprop((kLoc d L ↦[oset (rowOf L)]{fullShare} fun _ => outKey (F := F) (words X (rowOf L)))
    ∗ sLoc d L ↦[oset (rowOf L)]{fullShare} fun _ => outSum (F := F) (words X (rowOf L)))

set_option maxRecDepth 2048 in
/-- One tile's run. -/
theorem tile_body (hF : (K (F := F)).Facts) (X : Buf (Elt F) (xLoc d L)) (O : CellTallies nD τ sig (HIx 1)) (W : Waits sig (HIx 1))
    (hO : ∀ g, O g none = 0) :
    iprop(levAts (K (F := F)).L (K (F := F)).lev ∗ (xLoc d L ↦[xset (rowOf L)]{fullShare} X)
        ∗ ((∃ f, kLoc d L ↦[oset (rowOf L)]{fullShare} f) ∗ ∃ f, sLoc d L ↦[oset (rowOf L)]{fullShare} f)
        ∗ scopedBufs (tv d L) ∗ scopedSems0 (tv d L) ∗ owes (tv d L) O W)
      ⊢ wpv d L (cc0__sc_body (F := F) L aX (Memref.isWhole_whole _) aK (Memref.isWhole_whole _) aS (Memref.isWhole_whole _)
          aB (Memref.isWhole_whole _) aH (Memref.isWhole_whole _) aKb (Memref.isWhole_whole _) aSb (Memref.isWhole_whole _)
          cc0_scratch4 cc0_scratch5 cc0_scoped0 cc0_scoped1)
        fun _ => iprop(tileOut d L X ∗ scopedBufs (tv d L) ∗ scopedSems0 (tv d L) ∗ owing d L O W) := by
  simp only [cc0__sc_body_eq_skeleton]; unfold cc0__sc_body_skel
  simp only [k0_part3_eq_skeleton, k0_part3_skel, k0_part4_eq_skeleton, k0_part4_skel, Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_V, ownBufs_V]
  iintro ⟨#Hlv, Hx, ⟨⟨%fk, Hk⟩, ⟨%fs, Hs⟩⟩, ⟨⟨%fb, Hb⟩, ⟨%fh, Hh⟩, ⟨%fkb, Hkb⟩, ⟨%fsb, Hsb⟩, Hbufs⟩, ⟨Hs0, Hs1, HsK, HsS, Hsems⟩, HO⟩
  -- zero the histogram
  iapply (Scf.wp_for_bind frame (wpE defs₀ 𝒱₀ (tv d L) none) Set.univ _ _ _ _ _ _ (fun n _ => (hLoc d L ↦{fullShare} zlow fh (16 * n) : sProp 𝕄))
    (fun t u => step1 d L fh t u)) $$ [Hh]
  · rw [show 16 * 0 = 0 from rfl, zlow_zero]; iexact Hh
  iintro %u1 Hh
  rw [show Scf.trips k0_t1_loop.lb k0_t1_loop.ub k0_t1_loop.st = 4096 from trips1, show 16 * 4096 = 65536 from rfl, zlow_all]
  -- the row in two read halves, the double buffer in its two halves
  ihave Hx' := (pointsTo_share (PosShare.mem_left_op_right fullShare)).1 $$ Hx
  icases Hx' with ⟨Hxl, Hxr⟩
  ihave Hb' := (pointsTo_split_subset (Finset.subset_univ (slotSet 0))).1 $$ Hb
  rw [halves]
  icases Hb' with ⟨Hb0, Hb1⟩
  iapply (start d L X fullShare.left cc0_scratch4.sem 0 (2 * 0) (by omega) _ _ _ (off2_at L) fb) $$ [Hxl Hb0 Hs0]
  · isplitl [Hxl]; · iexact Hxl
    isplitl [Hb0]; · iexact Hb0
    iexact Hs0
  iintro Hlo
  -- the first pass
  iapply (Scf.wp_for_bind frame (wpE defs₀ 𝒱₀ (tv d L) none) Set.univ _ _ _ _ _ _ (fun n a => invA d L X O W n a)
    (fun t a => step2 d L X O W hO t a)) $$ [Hlo Hxr Hb1 Hs1 Hh HO]
  · unfold invA upper owing
    isplitr; · iexact Hlv
    isplitr; · ipureintro; rfl
    isplitl [Hlo]; · rw [lower, if_pos (by omega)]; iexact Hlo
    isplitl [Hxr Hb1 Hs1]
    · isplitl [Hxr]; · iexact Hxr
      isplitl [Hb1]
      · iexists fb; iexact Hb1
      iexact Hs1
    isplitl [Hh]; · iexact Hh
    iexists W
    isplitr; · ipureintro; exact fun p hp => Or.inl hp
    iexact HO
  iintro %z HI
  rw [show Scf.trips k0_t2_loop.lb k0_t2_loop.ub k0_t2_loop.st = 25 from trips2]
  unfold invA
  rw [show lower d L X 25 = iprop((xLoc d L ↦[xset (rowOf L)]{fullShare.left} X) ∗ (∃ f, bLoc d L ↦[slotSet 0]{fullShare} f) ∗ semVal (cell0 d L) 0) from
    if_neg (by omega)]
  icases HI with ⟨-, %hz, ⟨Hxl, ⟨%f0, Hb0⟩, Hs0⟩, Hup, Hh, HO⟩
  -- the first scan
  iapply (Scf.wp_for_bind frame (wpE defs₀ 𝒱₀ (tv d L) none) Set.univ _ _ _ _ _ _ (inv3 d L z (hist1 (words X (rowOf L)) 62500) (zF, 0#32, zF, zF))
    (fun t a => step5 d L z _ _ _ _ t a)) $$ [Hh]
  · unfold inv3
    isplitr; · ipureintro; rfl
    rw [show 16 * 0 = 0 from rfl, zhigh_zero]; iexact Hh
  iintro %a HI
  rw [show Scf.trips k0_t5_loop.lb k0_t5_loop.ub k0_t5_loop.st = 4096 from trips5]
  unfold inv3
  rw [show 16 * 4096 = 65536 from rfl, zhigh_all]
  icases HI with ⟨%ha, Hh⟩
  iapply (start d L X fullShare.left cc0_scratch4.sem 0 (2 * 0) (by omega) _ _ _ (off2_at L) f0) $$ [Hxl Hb0 Hs0]
  · isplitl [Hxl]; · iexact Hxl
    isplitl [Hb0]; · iexact Hb0
    iexact Hs0
  iintro Hlo
  -- the second pass
  iapply (Scf.wp_for_bind frame (wpE defs₀ 𝒱₀ (tv d L) none) Set.univ _ _ _ _ _ _ (fun n _ => invB d L X O W a.2.1 n)
    (fun t u => step6 d L _ _ _ _ X O W hO a.2.1 t u)) $$ [Hlo Hup Hh HO]
  · unfold invB
    isplitr; · iexact Hlv
    isplitl [Hlo]; · rw [lower, if_pos (by omega)]; iexact Hlo
    isplitl [Hup]; · iexact Hup
    isplitl [Hh]; · iexact Hh
    iexact HO
  iintro %u2 HI
  rw [show Scf.trips k0_t6_loop.lb k0_t6_loop.ub k0_t6_loop.st = 25 from trips6]
  unfold invB upper owing
  rw [show lower d L X 25 = iprop((xLoc d L ↦[xset (rowOf L)]{fullShare.left} X) ∗ (∃ f, bLoc d L ↦[slotSet 0]{fullShare} f) ∗ semVal (cell0 d L) 0) from
    if_neg (by omega)]
  icases HI with ⟨-, ⟨Hxl, ⟨%f0', Hb0⟩, Hs0⟩, ⟨Hxr, ⟨%f1', Hb1⟩, Hs1⟩, Hh, ⟨%W', %hW', HO⟩⟩
  -- the second scan
  iapply (Scf.wp_for_bind frame (wpE defs₀ 𝒱₀ (tv d L) none) Set.univ _ _ _ _ _ _
    (inv3 d L z (hist2 (words X (rowOf L)) a.2.1 62500) (k0_pay19 a.2.2.1 a.2.2.2, 0#32, k0_pay19 a.2.2.1 a.2.2.2, zF))
    (fun t a => step9 d L z _ _ _ _ t a)) $$ [Hh]
  · unfold inv3
    isplitr; · ipureintro; rfl
    rw [show 16 * 0 = 0 from rfl, zhigh_zero]; iexact Hh
  iintro %b HI
  rw [show Scf.trips k0_t9_loop.lb k0_t9_loop.ub k0_t9_loop.st = 4096 from trips9]
  unfold inv3
  rw [show 16 * 4096 = 65536 from rfl, zhigh_all]
  icases HI with ⟨%hb, Hh⟩
  have hA : a = scanA (F := F) (words X (rowOf L)) := by rw [ha, hz]; rfl
  have hB : b = scanB (F := F) (words X (rowOf L)) := by rw [hb, hA, hz]; rfl
  have hkey : Scalar.shli (Scalar.ori (Scalar.shli a.2.1 12#32) b.2.1) 8#32 = outKey (F := F) (words X (rowOf L)) := by rw [hA, hB]; rfl
  have hsum : b.2.2.1 = outSum (F := F) (words X (rowOf L)) := by rw [hB]; rfl
  rw [hkey, hsum]
  -- the two results, stored and sent
  iapply (wp_load_rect 𝒱₀ (tv d L) none Set.univ (m := aKb) (r := Rect.unit (s := S16) ![0] S16.size inb_S16_S16_0) (S := Finset.univ)
    (q := fullShare) (f := fkb) (Finset.subset_univ _)) $$ Hkb
  iintro Hkb
  iapply (wp_store 𝒱₀ (tv d L) none Set.univ (m := aKb) (r := Rect.unit (s := S16) ![0] S16.size inb_S16_S16_0) (S := Finset.univ)
    (Mk := Finset.univ) (f := fkb) (Finset.subset_univ _)) $$ Hkb
  iintro Hkb
  rw [kb_write]
  iapply (wp_load_rect 𝒱₀ (tv d L) none Set.univ (m := aSb) (r := Rect.unit (s := S16) ![0] S16.size inb_S16_S16_0) (S := Finset.univ)
    (q := fullShare) (f := fsb) (Finset.subset_univ _)) $$ Hsb
  iintro Hsb
  iapply (wp_store 𝒱₀ (tv d L) none Set.univ (m := aSb) (r := Rect.unit (s := S16) ![0] S16.size inb_S16_S16_0) (S := Finset.univ)
    (Mk := Finset.univ) (f := fsb) (Finset.subset_univ _)) $$ Hsb
  iintro Hsb
  rw [sb_write]
  iapply (Transfers.wp_dmaLocal EC 𝒱₀ (tv d L) none (src := aKb) (via := ReadAs.same)
    (dst := aK.slice (Rect.unit (s := S512) (k0_off15 L) S16.size (k0_off15_inb L)) (fun _ => rfl))
    (q := fullShare) (fs := fun _ => outKey (F := F) (words X (rowOf L))) (Sd := oset (rowOf L)) (fd := fk) none
    ((main_v1_0_scv : Ref sig .scVector).dmaCredit S16 .i32) rfl (sig.dmaCredit_pos _ _ _ _ _ (by decide)) (kout_set L).le) $$ [Hkb Hk HsK]
  · isplitl [Hkb]; · iexact Hkb
    isplitl [Hk]; · iexact Hk
    iexact HsK
  iintro Hfl
  iapply (Transfers.wp_waitLocalO EC 𝒱₀ (tv d L) none none (N := (main_v1_0_scv : Ref sig .scVector).dmaCredit S16 .i32) rfl) $$ [Hfl HO]
  · isplitl [Hfl]; · iexact Hfl
    isplitl [HO]; · iexact HO
    iapply ((K (F := F)).mayWait_none (SemLoc.dma cc0_scoped0.sem) hO); iexact Hlv
  iintro ⟨⟨Hk, Hkb⟩, HsK, HO⟩
  iapply (Transfers.wp_dmaLocal EC 𝒱₀ (tv d L) none (src := aSb) (via := ReadAs.same)
    (dst := aS.slice (Rect.unit (s := S512) (k0_off15 L) S16.size (k0_off15_inb L)) (fun _ => rfl))
    (q := fullShare) (fs := fun _ => outSum (F := F) (words X (rowOf L))) (Sd := oset (rowOf L)) (fd := fs) none
    ((main_v1_1_scv : Ref sig .scVector).dmaCredit S16 .f32) rfl (sig.dmaCredit_pos _ _ _ _ _ (by decide)) (sout_set L).le) $$ [Hsb Hs HsS]
  · isplitl [Hsb]; · iexact Hsb
    isplitl [Hs]; · iexact Hs
    iexact HsS
  iintro Hfl
  iapply (Transfers.wp_waitLocalO EC 𝒱₀ (tv d L) none none (N := (main_v1_1_scv : Ref sig .scVector).dmaCredit S16 .f32) rfl) $$ [Hfl HO]
  · isplitl [Hfl]; · iexact Hfl
    isplitl [HO]; · iexact HO
    iapply ((K (F := F)).mayWait_none (SemLoc.dma cc0_scoped1.sem) hO); iexact Hlv
  iintro ⟨⟨Hs, Hsb⟩, HsS, HO⟩
  rw [wp_ret]
  imodintro
  isplitl [Hk Hs]
  · unfold tileOut
    isplitl [Hk]
    · iapply (Entails.of_eq (pointsTo_congr fun p hp => kout_write d L fk _ p hp)) $$ Hk
    · iapply (Entails.of_eq (pointsTo_congr fun p hp => sout_write d L fs _ p hp)) $$ Hs
  isplitl [Hb0 Hb1 Hh Hkb Hsb Hbufs]
  · isplitl [Hb0 Hb1]
    · have hset : slotSet 20000 = (Finset.univ : Finset S40000.Idx) \ slotSet 0 := halves.symm
      rw [hset]
      iexists (slotSet 0).piecewise f0' f1'
      iapply (pointsTo_join_subset (ℓ := bLoc d L) (q := fullShare) (f := f1') (g := f0') (Finset.subset_univ (slotSet 0)))
      isplitl [Hb0] <;> iassumption
    isplitl [Hh]; · iexists _; iexact Hh
    isplitl [Hkb]
    · iexists _; iexact Hkb
    isplitl [Hsb]
    · iexists _; iexact Hsb
    iexact Hbufs
  isplitl [Hs0 Hs1 HsK HsS Hsems]
  · isplitl [Hs0]; · iexact Hs0
    isplitl [Hs1]; · iexact Hs1
    isplitl [HsK]; · iexact HsK
    isplitl [HsS]; · iexact HsS
    iexact Hsems
  iexists _
  isplitr; swap
  · iexact HO
  ipureintro
  exact cond_insert (cond_insert hW')

end Cert.Proof
-- ==== Proof.Region.lean ====
/- The TensorCore kernel, which turns each row's threshold and kept mass into the row of results: its body run on one
   row, the values it leaves, and the whole call over its thirty-two rows. -/
module

public import proofs.«01_k».proof.Proof.Common
public import proofs.«01_k».proof.Proof.Gen.KernelIdeal.Launch
public import proofs.«01_k».proof.Proof.Gen.KernelIdeal.Points
public import Idealize.ShloMosaic.Lib.Pipeline.RegionsOwned

@[expose] public section

noncomputable section

namespace Cert.Proof

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

/-- A buffer held whole by device `c`'s TensorCore. -/
abbrev held1 (c : Dev nD) {sp : Space} {S : Shape} {e : EltTy} (M : Memref sig .tc sp S e) (f : Buf (Elt F) (M.view.loc (c : Thread nD τ))) :
    sProp 𝕄 := M.view.loc (c : Thread nD τ) ↦{fullShare} f

variable [FloatOps F]

/-- What the body writes of a row's words, the row's sixteen copies of the threshold and of the kept mass. -/
def finOut (x : Vec F S1x7816x128 .i32) (k : Vec F S1x1x16 .i32) (s : Vec F S1x1x16 .f32) : FVec F S1x7816x128 .f32 :=
  k1_pay1 x (View.ld k (Rect.unit (s := S1x1x16) ![0, 0, 0] S1x1x1.size inb_S1x1x16_S1x1x1_0_0_0))
    (View.ld s (Rect.unit (s := S1x1x16) ![0, 0, 0] S1x1x1.size inb_S1x1x16_S1x1x1_0_0_0))

theorem fin_run (c : Dev nD) (i : grid1.Coords) (M0 : Memref sig .tc .vmem S1x7816x128 .i32) (h0 : M0.IsWhole)
    (M1 : Memref sig .tc .vmem S1x1x16 .i32) (h1 : M1.IsWhole) (M2 : Memref sig .tc .vmem S1x1x16 .f32) (h2 : M2.IsWhole)
    (M3 : Memref sig .tc .vmem S1x7816x128 .f32) (h3 : M3.IsWhole) (f0 f1 f2 f3) :
    iprop(held1 (F := F) c M0 f0 ∗ held1 c M1 f1 ∗ held1 c M2 f2 ∗ held1 c M3 f3)
      ⊢ wp frame (wpE (defs₀ (F := F)) 𝒱₀ c none) Set.univ (cc1__finalize_kernel i M0 h0 M1 h1 M2 h2 M3 h3) fun _ =>
        iprop(held1 c M0 f0 ∗ held1 c M1 f1 ∗ held1 c M2 f2
          ∗ ∃ f, ⌜M3.view.read (Elt F) f = finOut (M0.view.read (Elt F) f0) (M1.view.read (Elt F) f1) (M2.view.read (Elt F) f2)⌝ ∗ held1 c M3 f) := by
  rw [cc1__finalize_kernel_eq_skeleton]
  unfold cc1__finalize_kernel_skel
  iintro ⟨H0, H1, H2, H3⟩
  sl_exec!
  sl_step
  isplitl [H0]; · iexact H0
  isplitl [H1]; · iexact H1
  isplitl [H2]; · iexact H2
  iexists _
  isplitr; swap; · iexact H3
  ipureintro
  unfold fin_run.sl.H3_1 finOut
  rw [View.read_writes_junk_eq_canon, View.canon_unit_zero (by decide)]
  rw [show View.readAt (Elt F) M0.view (Rect.unit ![0, 0, 0] S1x7816x128.size inb_S1x7816x128_S1x7816x128_0_0_0).toLoadRect f0
    = View.ld (M0.view.read (Elt F) f0) (Rect.unit ![0, 0, 0] S1x7816x128.size inb_S1x7816x128_S1x7816x128_0_0_0) from rfl,
    View.ld_unit_zero (by decide)]
  rfl

/-! ## The call's proof data, at an entry valuation of the device's arrays -/

variable (Vl : (c : Dev nD) → (b : Ref sig .tc) → Buf (Elt F) ((c : Thread nD τ).loc b))

/-- What point `t` finds of the words, of the thresholds and of the kept masses. -/
abbrev blk0 (c : Dev nD) (t : Fin cfg1.N) : Vec F S1x7816x128 .i32 := ((cfg1.win 0).blk t).view.read (Elt F) (Vl c main_v5)
abbrev blk1 (c : Dev nD) (t : Fin cfg1.N) : Vec F S1x1x16 .i32 := ((cfg1.win 1).blk t).view.read (Elt F) (Vl c main_v2)
abbrev blk2 (c : Dev nD) (t : Fin cfg1.N) : Vec F S1x1x16 .f32 := ((cfg1.win 2).blk t).view.read (Elt F) (Vl c main_v3)

/-- The pairs the TensorCore's waits may have recorded by then: none above the SparseCore call's last stage. -/
def seen (c : Dev nD) : Set (SemLoc sig × HIx 1) := {p | (K (F := F)).lev ((T c : Thread nD τ), p.1) p.2 ≤ 8}

def dat (c : Dev nD) : Dat τ (Elt F) (HIx 1) ℕ UU ℕ cfg1 c where
  A w := Vl c (Pipeline.arrRef spec1 w)
  after w t := match w with
    | ⟨0, _⟩ => blk0 Vl c t
    | ⟨1, _⟩ => blk1 Vl c t
    | ⟨2, _⟩ => blk2 Vl c t
    | ⟨3, _⟩ => finOut (F := F) (blk0 Vl c t) (blk1 Vl c t) (blk2 Vl c t)
  Φ _ := BI.emp
  q _ := fullShare
  owed _ := 0
  recorded _ := seen (F := F) c

theorem before_0 (c : Dev nD) (t : Fin cfg1.N) (x) : (dat Vl c).before 0 t x = blk0 Vl c t := by
  unfold Dat.before; rw [if_pos (fetch1_0 t)]; rfl
theorem before_1 (c : Dev nD) (t : Fin cfg1.N) (x) : (dat Vl c).before 1 t x = blk1 Vl c t := by
  unfold Dat.before; rw [if_pos (fetch1_1 t)]; rfl
theorem before_2 (c : Dev nD) (t : Fin cfg1.N) (x) : (dat Vl c).before 2 t x = blk2 Vl c t := by
  unfold Dat.before; rw [if_pos (fetch1_2 t)]; rfl

omit [FloatOps F] in
theorem owns_of_whole (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ held1 c M f) := by
  unfold owns; rw [h.set_eq_univ]

theorem body_obligation (c : Dev nD) : BodyObligation (dat Vl c) (defs₀ (F := F)) 𝒱₀ none Set.univ := fun t => by
  rw [bigSep_W1, bigSep_W1]
  rw [show (dat Vl c).Φ t.castSucc = BI.emp from rfl, show (dat Vl c).Φ t.succ = BI.emp from rfl,
    show (dat Vl c).owesAt none t.succ = (dat Vl c).owesAt none t.castSucc from rfl]
  dsimp only
  rw [owns_of_whole _ _ (stage_whole1 0 _), owns_of_whole _ _ (stage_whole1 1 _), owns_of_whole _ _ (stage_whole1 2 _),
    owns_of_whole _ _ (stage_whole1 3 _)]
  iintro ⟨-, Howes, ⟨%d0, H0⟩, ⟨%d1, H1⟩, ⟨%d2, H2⟩, ⟨%d3, H3⟩⟩
  ihave H0 := (Entails.of_eq (owns_of_whole _ _ (stage_whole1 0 _) _)) $$ H0
  ihave H1 := (Entails.of_eq (owns_of_whole _ _ (stage_whole1 1 _) _)) $$ H1
  ihave H2 := (Entails.of_eq (owns_of_whole _ _ (stage_whole1 2 _) _)) $$ H2
  ihave H3 := (Entails.of_eq (owns_of_whole _ _ (stage_whole1 3 _) _)) $$ H3
  icases H0 with ⟨%f0, %hf0, H0⟩
  icases H1 with ⟨%f1, %hf1, H1⟩
  icases H2 with ⟨%f2, %hf2, H2⟩
  icases H3 with ⟨%f3, -, H3⟩
  rw [before_0] at hf0
  rw [before_1] at hf1
  rw [before_2] at hf2
  iapply (wp_wand_r frame _ _)
  isplitl [H0 H1 H2 H3]
  · iapply (fin_run c (grid1.coords t) _ (stage_whole1 0 _) _ (stage_whole1 1 _) _ (stage_whole1 2 _) _ (stage_whole1 3 _) f0 f1 f2 f3)
    isplitl [H0]; · iexact H0
    isplitl [H1]; · iexact H1
    isplitl [H2] <;> iassumption
  iintro %_ ⟨H0, H1, H2, %f, %hf, H3⟩
  isplitr; · iempintro
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  iexists _; isplitr; swap; (· iexact H3); ipureintro
  rw [hf, show ((spec1 0).stage (cfg1.slots t 0)).view.read (Elt F) f0 = _ from hf0,
    show ((spec1 1).stage (cfg1.slots t 1)).view.read (Elt F) f1 = _ from hf1,
    show ((spec1 2).stage (cfg1.slots t 2)).view.read (Elt F) f2 = _ from hf2]
  rfl

/-! ## The call as a region between two states of the device's arrays -/

/-- The array of results after the call. -/
def finArr (c : Dev nD) : Buf (Elt F) ((c : Thread nD τ).loc main_v6) := (dat Vl c).arrAt 3 cfg1.N

def adm : (p : Fin 1) → (pcfgs (F := F) p).Adm := fun p => (cfgs p).toPCfg_adm

/-- The proof data of the one call. -/
def pdats : (p : Fin 1) → (c : Dev nD) → Dat τ (Elt F) (HIx 1) ℕ UU ℕ (Pipeline.pin (pcfgs (F := F)) adm p) c
  | ⟨0, _⟩ => fun c => dat Vl c

/-- The device's arrays after the call: the results written, the rest as it was. -/
def after1 (c : Dev nD) : (b : Ref sig .tc) → Buf (Elt F) ((c : Thread nD τ).loc b) :=
  Function.update (Vl c) main_v6 (finArr Vl c)

theorem after1_ne (c : Dev nD) {b : Ref sig .tc} (h : b ≠ main_v6) : after1 Vl c b = Vl c b := Function.update_of_ne h _ _
theorem after1_out (c : Dev nD) : after1 Vl c main_v6 = finArr Vl c := Function.update_self _ _ _

/-- The TensorCore owing nothing, its waits recorded below `seen`. -/
def idle (c : Dev nD) : sProp 𝕄 := iprop(∃ W, ⌜∀ p ∈ W, p ∈ seen (F := F) c⌝ ∗ owes (c : Thread nD τ) (0 : CellTallies nD τ sig (HIx 1)) W)

/-- The flat words, which the tiles keep, are no array of the call. -/
theorem rest_v0 : ({main_v0} : Finset (Ref sig .tc)) ⊆ Pipeline.restRefs sig spec1 := by decide

set_option backward.isDefEq.respectTransparency.types false in
/-- The call as a region: the array of results written, every other array but the flat words passed by. -/
def region : Pipeline.RegionSeg (pcfgs (F := F)) adm (pdats Vl) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation Vl c).loose
  hwaits := Pipeline.hwaits_of_owed_zero _ _ _ _ _ _ 0 fun _ _ => rfl
  pre c := iprop(Pipeline.unscopedBufsBut {main_v0} c (Vl c) ∗ idle c)
  post c := iprop(Pipeline.unscopedBufsBut {main_v0} c (after1 Vl c) ∗ idle c)
  X _ := BI.emp
  Y _ := BI.emp
  Z c := iprop(bigSep (Pipeline.restRefs sig spec1 \ {main_v0}) fun b => ((c : Thread nD τ).loc b) ↦{fullShare} Vl c b)
  hentry c := by
    rw [Pipeline.ownSems0_none]
    have hsplit := Pipeline.arrays_of_unscopedBufsBut (p := 0) (pcfgs (F := F)) adm (pdats Vl) (launch1).win (launch1).arr_whole {main_v0} rest_v0 c
      ((pdats Vl 0 c).share_full fun _ => rfl) (Vl c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin idle
      icases HO with ⟨%W, %hW, HO⟩; iexists W; isplitr; · ipureintro; exact fun p hp => Or.inl (hW p hp)
      iexact HO
    isplitr; · iempintro
    iexact Hrest
  hin c := by
    rw [show (pdats Vl 0 c).Φ 0 = BI.emp from rfl]
    iintro ⟨-, -, -⟩; iempintro
  hout c := by
    rw [Pipeline.ownSems0_none, show (pdats Vl 0 c).Φ (Fin.last _) = BI.emp from rfl]
    iintro -
    isplitr; · iempintro
    isplitr; · iempintro
    iapply (Entails.of_eq (scopedRest1_eq c).symm)
    iempintro
  hexit c := by
    have hjoin := Pipeline.unscopedBufsBut_of_arrays (p := 0) (pcfgs (F := F)) adm (pdats Vl) (launch1).win (launch1).arr_whole {main_v0} rest_v0 c
      ((pdats Vl 0 c).share_full fun _ => rfl) (Vl c) (after1 Vl c) ((pdats Vl 0 c).arrAt · cfg1.N)
      (fun w => by
        fin_cases w
        · exact ((pdats Vl 0 c).arrAt_in 0 rfl _).trans (after1_ne Vl c (b := main_v5) (by decide)).symm
        · exact ((pdats Vl 0 c).arrAt_in 1 rfl _).trans (after1_ne Vl c (b := main_v2) (by decide)).symm
        · exact ((pdats Vl 0 c).arrAt_in 2 rfl _).trans (after1_ne Vl c (b := main_v3) (by decide)).symm
        · exact (after1_out Vl c).symm)
      (fun b hb => after1_ne Vl c fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin idle
    icases HO with ⟨%W, %hW, HO⟩; iexists W
    isplitr; swap; · iexact HO
    ipureintro
    intro p hp
    rcases hW hp with h | ⟨w, s, rfl⟩
    · exact h
    · exact Nat.zero_le _

end Cert.Proof

end
-- ==== Proof.Launch.lean ====
/- The SparseCore call as the launch theorem sees it: what it hands each tile and takes back, the arrays cut into the
   tiles' rows and joined again, and the ghost state the launch starts from. -/
module

public import proofs.«01_k».proof.Proof.Tile
public import proofs.«01_k».proof.Proof.Region

@[expose] public section

noncomputable section

namespace Cert.Proof

open Cert.KernelIdeal Cert.KernelIdeal.Gen
open Idealize.ShloMosaic Idealize.ShloMosaic.TcCoe Idealize.ShloMosaic.Tactic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The tile of core `c` and subcore `s`. -/
def coordsV (c : Fin 2) (s : Fin 16) : grid0.Coords
  | 0 => c
  | 1 => s
  | ⟨_ + 2, h⟩ => absurd h (Nat.not_lt.2 (Nat.le_add_left _ _))

theorem nCore_zero : (K (F := F)).nCore 0 = 2 := rfl
theorem nSub_zero : (K (F := F)).nSub 0 = 16 := rfl

/-- The words, flat. -/
def flat (w : S32x1000000.Idx → BitVec 32) : S32000000.Idx → BitVec 32 := shapeCast S32000000 w shapeCasts_S32x1000000_S32000000

variable (m : (ℓ : Loc nD τ sig) → Buf (Elt F) ℓ)

/-- The kernel's argument. -/
abbrev arg (d : Dev nD) : S32x1000000.Idx → BitVec 32 := m ((SparseCore.T d).loc main_arg0)

/-- What the call hands the tile: its row of the words, and its row of each result. -/
def goOf (d : Dev nD) (L : grid0.Coords) : sProp 𝕄 :=
  iprop((xLoc d L ↦[xset (rowOf L)]{fullShare} flat (arg m d))
    ∗ (∃ f, kLoc d L ↦[oset (rowOf L)]{fullShare} f) ∗ ∃ f, sLoc d L ↦[oset (rowOf L)]{fullShare} f)

instance goOf_storable (d : Dev nD) (L : grid0.Coords) : BI.Storable (upEmb : UEmb _ 𝕄) (goOf m d L) := by unfold goOf; infer_instance
instance tileOut_storable (d : Dev nD) (L : grid0.Coords) (X : Buf (Elt F) (xLoc d L)) :
    BI.Storable (upEmb : UEmb _ 𝕄) (tileOut d L X) := by unfold tileOut; infer_instance

/-- A core's tiles together. -/
def goAll (d : Dev nD) (c : Fin 2) : sProp 𝕄 := bigSep Finset.univ fun i : Fin 16 => goOf m d (coordsV c i)
def outAll (d : Dev nD) (c : Fin 2) : sProp 𝕄 := bigSep Finset.univ fun i : Fin 16 => tileOut d (coordsV c i) (flat (arg m d))

instance goAll_storable (d : Dev nD) (c : Fin 2) : BI.Storable (upEmb : UEmb _ 𝕄) (goAll m d c) := by unfold goAll; infer_instance
instance outAll_storable (d : Dev nD) (c : Fin 2) : BI.Storable (upEmb : UEmb _ 𝕄) (outAll m d c) := by unfold outAll; infer_instance

def P : (K (F := F)).Pay (nD := nD) (Val := Elt F) (Name := ℕ) (U := UU) where
  st := fun q d c => match q with | 0 => goAll m d (Fin.cast nCore_zero c)
  dn := fun q d c => match q with | 0 => outAll m d (Fin.cast nCore_zero c)
  go := fun q d c i => match q with | 0 => goOf m d (coordsV (Fin.cast nCore_zero c) (Fin.cast nSub_zero i))
  td := fun q d c i => match q with | 0 => tileOut d (coordsV (Fin.cast nCore_zero c) (Fin.cast nSub_zero i)) (flat (arg m d))
  x := fun _ _ => iprop(emp)

instance P_storable : (P (F := F) m).IsStorable where
  st q d c := match q with | 0 => (inferInstance : BI.Storable (upEmb : UEmb _ 𝕄) (goAll m d (Fin.cast nCore_zero c)))
  dn q d c := match q with | 0 => (inferInstance : BI.Storable (upEmb : UEmb _ 𝕄) (outAll m d (Fin.cast nCore_zero c)))
  go q d c i := match q with
    | 0 => (inferInstance : BI.Storable (upEmb : UEmb _ 𝕄) (goOf m d (coordsV (Fin.cast nCore_zero c) (Fin.cast nSub_zero i))))
  td q d c i := match q with
    | 0 => (inferInstance : BI.Storable (upEmb : UEmb _ 𝕄) (tileOut d (coordsV (Fin.cast nCore_zero c) (Fin.cast nSub_zero i)) (flat (arg m d))))

/-- An entailment under its other name. -/
theorem entails_of {M : Type} [URA M] {A B : sProp M} (h : A ⊢ B) : Idealize.SL.BI.Entails A B := h
theorem of_entails {M : Type} [URA M] {A B : sProp M} (h : Idealize.SL.BI.Entails A B) : A ⊢ B := h
theorem bigSep_emp {M : Type} [URA M] {I : Type} (s : Finset I) : (bigSep s fun _ => iprop(emp)) = (iprop(emp) : sProp M) := bigSep_emp_const s

/-! ## One tile's task -/

theorem defs₀_vector (c : Fin τ.nSC) (s : Fin τ.nSub) :
    defs₀ (F := F) (.scVector c s) 0 ()
      = SparseCore.onTile hcore0 hsub0 (fun c s => cc0__sc_body (coordsV c s) aX (Memref.isWhole_whole _) aK (Memref.isWhole_whole _)
          aS (Memref.isWhole_whole _) aB (Memref.isWhole_whole _) aH (Memref.isWhole_whole _) aKb (Memref.isWhole_whole _)
          aSb (Memref.isWhole_whole _) cc0_scratch4 cc0_scratch5 cc0_scoped0 cc0_scoped1) ⟨⟩ c s := rfl

/-- A task that waited only for its own copies meets what the launch asks of it. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tile_pay (d : Dev nD) (L : grid0.Coords) (O : CellTallies nD τ sig (HIx 1)) (W : Waits sig (HIx 1)) (hO : ∀ g, O g none = 0) :
    iprop(levAts (K (F := F)).L (K (F := F)).lev ∗ emp ∗ goOf m d L
        ∗ scopedBufs (tv d L) ∗ scopedSems0 (tv d L) ∗ owes (tv d L) O W)
      ⊢ wp frame (wpE (defs₀ (F := F)) 𝒱₀ (tv d L) none) Set.univ (cc0__sc_body (F := F) L aX (Memref.isWhole_whole _) aK (Memref.isWhole_whole _)
          aS (Memref.isWhole_whole _) aB (Memref.isWhole_whole _) aH (Memref.isWhole_whole _) aKb (Memref.isWhole_whole _)
          aSb (Memref.isWhole_whole _) cc0_scratch4 cc0_scratch5 cc0_scoped0 cc0_scoped1)
        fun _ => iprop(tileOut d L (flat (arg m d)) ∗ scopedBufs (tv d L) ∗ scopedSems0 (tv d L)
          ∗ ∃ W', ⌜∀ p ∈ W', p ∈ W ∨ p.2 = none⌝ ∗ owes (tv d L) O W') := by
  refine BI.Entails.trans (entails_of ?_) (tile_body d L facts (flat (arg m d)) O W hO)
  unfold goOf
  iintro ⟨Hl, -, ⟨Hx, Hk, Hs⟩, Hsb, Hss, HO⟩
  isplitl [Hl]; · iexact Hl
  isplitl [Hx]; · iexact Hx
  isplitl [Hk Hs]
  · isplitl [Hk] <;> iassumption
  isplitl [Hsb]; · iexact Hsb
  isplitl [Hss] <;> iassumption

set_option maxRecDepth 1024 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_pay m d (coordsV ⟨_, hci.1⟩ ⟨_, hci.2⟩) O W hO).trans (wp_mono frame _ _ fun _ => waits_weaken)

theorem vecSplit : (K (F := F)).VecSplit' (P m) 0 := by
  intro d c
  show goAll m d (Fin.cast nCore_zero c) ⊢ |={Set.univ}=> iprop(goAll m d (Fin.cast nCore_zero c)
    ∗ (outAll m d (Fin.cast nCore_zero c) -∗ outAll m d (Fin.cast nCore_zero c)))
  iintro H; imodintro
  isplitl [H]; · iexact H
  iintro H; iexact H

/-! ## The arrays cut into the tiles' rows -/

omit [FloatOps F] in
/-- An array whose rows are numbered below 32, cut into them core by core. -/
theorem rows_eq {ℓ : Loc nD τ sig} (row : Idx ℓ → ℕ) (hrow : ∀ p, row p < 32) (q : PosShare TreeShare) (f : Buf (Elt F) ℓ) :
    (ℓ ↦{q} f : sProp 𝕄)
      = bigSep Finset.univ fun c : Fin 2 => bigSep Finset.univ fun i : Fin 16 =>
          ℓ ↦[Finset.univ.filter fun p => row p = 16 * c.val + i.val]{q} f := by
  classical
  have hin (c : Fin 2) : (bigSep Finset.univ fun i : Fin 16 => (ℓ ↦[Finset.univ.filter fun p => row p = 16 * c.val + i.val]{q} f : sProp 𝕄))
      = ℓ ↦[Finset.univ.filter fun p => row p / 16 = c.val]{q} f := by
    rw [← pointsTo_biUnion Finset.univ (fun i : Fin 16 => Finset.univ.filter fun p => row p = 16 * c.val + i.val)
      (fun a _ b _ hab => Finset.disjoint_left.mpr fun p hp hp' => hab (Fin.ext (by
        have h1 := (Finset.mem_filter.mp hp).2
        have h2 := (Finset.mem_filter.mp hp').2
        omega)))]
    refine congrArg (fun S => (ℓ ↦[S]{q} f : sProp 𝕄)) (Finset.ext fun p => ?_)
    simp only [Finset.mem_biUnion, Finset.mem_filter, Finset.mem_univ, true_and]
    refine ⟨fun ⟨i, hi⟩ => ?_, fun h => ⟨⟨row p % 16, Nat.mod_lt _ (by omega)⟩, ?_⟩⟩
    · have := i.isLt; omega
    · show row p = 16 * c.val + row p % 16; omega
  rw [bigSep_congr fun c _ => hin c,
    ← pointsTo_biUnion Finset.univ (fun c : Fin 2 => Finset.univ.filter fun p => row p / 16 = c.val)
      (fun a _ b _ hab => Finset.disjoint_left.mpr fun p hp hp' => hab (Fin.ext (by
        have h1 := (Finset.mem_filter.mp hp).2
        have h2 := (Finset.mem_filter.mp hp').2
        omega)))]
  refine congrArg (fun S => (ℓ ↦[S]{q} f : sProp 𝕄)) (Finset.ext fun p => ?_).symm
  simp only [Finset.mem_biUnion, Finset.mem_filter, Finset.mem_univ, true_and, iff_true]
  have := hrow p
  exact ⟨⟨row p / 16, by omega⟩, rfl⟩

abbrev x0Loc (d : Dev nD) : Loc nD τ sig := (SparseCore.T d).loc main_v0
abbrev k0Loc (d : Dev nD) : Loc nD τ sig := (SparseCore.T d).loc main_v1_0
abbrev s0Loc (d : Dev nD) : Loc nD τ sig := (SparseCore.T d).loc main_v1_1

/-- The results of the call: sixteen copies of each row's threshold and kept mass. -/
def keys (w : S32000000.Idx → BitVec 32) : S512.Idx → BitVec 32 := fun p => outKey (F := F) (words w ((p 0).val / 16))
def sums (w : S32000000.Idx → BitVec 32) : S512.Idx → F .f32 := fun p => outSum (F := F) (words w ((p 0).val / 16))

theorem st_of (d : Dev nD) :
    iprop((x0Loc d ↦{fullShare} flat (arg m d)) ∗ (∃ f, k0Loc d ↦{fullShare} f) ∗ ∃ f, s0Loc d ↦{fullShare} f)
      ⊢ (bigSep Finset.univ fun c : Fin 2 => goAll m d c : sProp 𝕄) := by
  have hx := rows_eq (F := F) (ℓ := x0Loc d) (fun p : S32000000.Idx => (p 0).val / 1000000)
    (fun p => by have : (p 0).val < 32000000 := (p 0).isLt; omega) fullShare (flat (arg m d))
  have hk (f) := rows_eq (F := F) (ℓ := k0Loc d) (fun p : S512.Idx => (p 0).val / 16)
    (fun p => by have : (p 0).val < 512 := (p 0).isLt; omega) fullShare f
  have hs (f) := rows_eq (F := F) (ℓ := s0Loc d) (fun p : S512.Idx => (p 0).val / 16)
    (fun p => by have : (p 0).val < 512 := (p 0).isLt; omega) fullShare f
  iintro ⟨Hx, ⟨%fk, Hk⟩, ⟨%fs, Hs⟩⟩
  ihave Hx := (Entails.of_eq hx) $$ Hx
  ihave Hk := (Entails.of_eq (hk fk)) $$ Hk
  ihave Hs := (Entails.of_eq (hs fs)) $$ Hs
  have key : iprop((bigSep Finset.univ fun c : Fin 2 => bigSep Finset.univ fun i : Fin 16 =>
          (x0Loc d ↦[Finset.univ.filter fun p : S32000000.Idx => (p 0).val / 1000000 = 16 * c.val + i.val]{fullShare} flat (arg m d) : sProp 𝕄))
        ∗ (bigSep Finset.univ fun c : Fin 2 => bigSep Finset.univ fun i : Fin 16 =>
          (k0Loc d ↦[Finset.univ.filter fun p : S512.Idx => (p 0).val / 16 = 16 * c.val + i.val]{fullShare} fk : sProp 𝕄))
        ∗ (bigSep Finset.univ fun c : Fin 2 => bigSep Finset.univ fun i : Fin 16 =>
          (s0Loc d ↦[Finset.univ.filter fun p : S512.Idx => (p 0).val / 16 = 16 * c.val + i.val]{fullShare} fs : sProp 𝕄)))
      ⊢ (bigSep Finset.univ fun c : Fin 2 => goAll m d c : sProp 𝕄) := by
    rw [← bigSep_sep', ← bigSep_sep']
    refine bigSep_mono fun c _ => ?_
    rw [← bigSep_sep', ← bigSep_sep']
    refine bigSep_mono fun i _ => entails_of ?_
    unfold goOf
    iintro ⟨Hx, Hk, Hs⟩
    isplitl [Hx]; · iexact Hx
    isplitl [Hk]
    · iexists fk; iexact Hk
    · iexists fs; iexact Hs
  iapply key
  isplitl [Hx]; · iexact Hx
  isplitl [Hk] <;> iassumption

theorem dn_to (d : Dev nD) :
    (bigSep Finset.univ fun c : Fin 2 => outAll m d c : sProp 𝕄)
      ⊢ iprop((k0Loc d ↦{fullShare} keys (F := F) (flat (arg m d))) ∗ s0Loc d ↦{fullShare} sums (F := F) (flat (arg m d))) := by
  rw [rows_eq (F := F) (ℓ := k0Loc d) (fun p : S512.Idx => (p 0).val / 16)
      (fun p => by have : (p 0).val < 512 := (p 0).isLt; omega) fullShare _,
    rows_eq (F := F) (ℓ := s0Loc d) (fun p : S512.Idx => (p 0).val / 16)
      (fun p => by have : (p 0).val < 512 := (p 0).isLt; omega) fullShare _, ← bigSep_sep']
  refine bigSep_mono fun c _ => ?_
  rw [← bigSep_sep']
  refine bigSep_mono fun i _ => ?_
  unfold tileOut
  refine BI.sep_mono (entails_of (Entails.of_eq ?_)) (entails_of (Entails.of_eq ?_))
  · refine pointsTo_congr fun p hp => ?_
    have h : (p 0).val / 16 = _ := (Finset.mem_filter.mp hp).2
    show outKey (F := F) (words _ _) = outKey (F := F) (words _ _)
    rw [h]
  · refine pointsTo_congr fun p hp => ?_
    have h : (p 0).val / 16 = _ := (Finset.mem_filter.mp hp).2
    show outSum (F := F) (words _ _) = outSum (F := F) (words _ _)
    rw [h]

/-! ## The ghost state of the launch -/

/-- The pipeline's share of it on one device. -/
abbrev G (d : Dev nD) : sProp 𝕄 :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem ghost_eq :
    (BI.own (((Emb.inl : Emb UP (UP × Counters)).trans embR) (initOf (Pipeline.cells (Pipeline.pin (pcfgs (F := F)) adm) cellOf_inj)
        (Pipeline.launchToks (Pipeline.pin (pcfgs (F := F)) adm) cellOf_inj))) : sProp 𝕄)
      = BI.own (EP (initOf (Pipeline.cells (Pipeline.pin (pcfgs (F := F)) adm) cellOf_inj)
        (Pipeline.launchToks (Pipeline.pin (pcfgs (F := F)) adm) cellOf_inj))) := rfl

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb embR _ _) $$ HR
  icases H with ⟨HP, -⟩
  ihave HP := (Entails.of_eq (ghost_eq (F := F))) $$ HP
  imod (Pipeline.fund_ghost (Pipeline.pin (pcfgs (F := F)) adm) (EP (F := F)) cellOf_inj) $$ HP with ⟨Hc, Ht⟩
  imodintro
  isplitl [HH]; · iexact HH
  isplitl [Hc Ht]
  · rw [bigSep_sep']
    isplitl [Hc]
    · iapply (of_entails (bigSep_mono (s := Finset.univ) (fun (d : Dev nD) _ => bigSep_elim (Φ := fun p => Pipeline.cellsGhost (Pipeline.pin (pcfgs (F := F)) adm) (EP (F := F)) p d) (Finset.mem_univ (0 : Fin 1)))))
      iexact Hc
    · iapply (of_entails (bigSep_mono (s := Finset.univ) (fun (d : Dev nD) _ => bigSep_elim (Φ := fun p => (Pipeline.toksInit (Pipeline.pin (pcfgs (F := F)) adm) (EP (F := F)) p d : sProp 𝕄)) (Finset.mem_univ (0 : Fin 1)))))
      iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp _, bigSep_emp]]
  iempintro

end Cert.Proof

end
-- ==== Proof.Main.lean ====
/- The whole program on one device: the host's steps, the SparseCore call and the TensorCore call, in order, and what
   every run of it ends with. -/
module

public import proofs.«01_k».proof.Proof.Launch

@[expose] public section

noncomputable section

namespace Cert.Proof

open Cert.KernelIdeal Cert.KernelIdeal.Gen
open Idealize.ShloMosaic Idealize.ShloMosaic.TcCoe Idealize.ShloMosaic.Tactic
open Idealize.ShloMosaic.SparseCore (S V)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's steps -/

abbrev dev (b : Ref sig .tc) : DevRef τ sig := Proc.devRef .tc b

abbrev opFlat : HloOp τ sig (Elt F) := StableHlo.reshape main_arg0 main_v0 (rfl : (.i32 : EltTy) = .i32) shapeCasts_S32x1000000_S32000000
abbrev opKeys : HloOp τ sig (Elt F) := StableHlo.reshape main_v1_0 main_v2 (rfl : (.i32 : EltTy) = .i32) shapeCasts_S512_S32x1x16
abbrev opSums : HloOp τ sig (Elt F) := StableHlo.reshape main_v1_1 main_v3 (rfl : (.f32 : EltTy) = .f32) shapeCasts_S512_S32x1x16
abbrev opFill : HloOp τ sig (Elt F) := StableHlo.nullary main_c (constantI S_ 32 4286578688#32)
abbrev opPad : HloOp τ sig (Elt F) :=
  StableHlo.TRef.binary (.of main_arg0 : StableHlo.TRef sig ⟨S32x1000000, .i32⟩) (.of main_c : StableHlo.TRef sig ⟨S_, .i32⟩) (main_call0).v0
    (fun x v => pad S32x1000448 ![0, 0] ![0, 448] ![0, 0] x v pads_S32x1000000_S32x1000448_000_04480 h_S_)
abbrev opTiles : HloOp τ sig (Elt F) := StableHlo.reshape main_v4 main_v5 (rfl : (.i32 : EltTy) = .i32) shapeCasts_S32x1000448_S32x7816x128
abbrev opRows : HloOp τ sig (Elt F) := StableHlo.reshape main_v6 main_v7 (rfl : (.f32 : EltTy) = .f32) shapeCasts_S32x7816x128_S32x1000448
abbrev opCut : HloOp τ sig (Elt F) :=
  StableHlo.unary main_v7 main_v8 ((extractStridedSlice S32x1000000 ![0, 0] · slices_S32x1000448_S32x1000000_0_0) :
    (⟨S32x1000448, .f32⟩ : BufTy).Contents (Elt F) → (⟨S32x1000000, .f32⟩ : BufTy).Contents (Elt F))

/-! ## The device's arrays as the program goes -/

/-- At the start; after the reshape; after the SparseCore call; before and after the TensorCore call; at the end. -/
def V0 (d : Dev nD) : Valuation τ sig (Elt F) := fun b => m (d, b)
def V1 (d : Dev nD) : Valuation τ sig (Elt F) := opFlat.result (V0 m d)
def V2 (d : Dev nD) : Valuation τ sig (Elt F) :=
  Function.update (Function.update (V1 m d) (dev main_v1_0) (keys (F := F) (flat (arg m d)))) (dev main_v1_1) (sums (F := F) (flat (arg m d)))
def V3 (d : Dev nD) : Valuation τ sig (Elt F) :=
  opTiles.result (opPad.result (opFill.result (opSums.result (opKeys.result (V2 m d)))))
abbrev V3' (c : Dev nD) (b : Ref sig .tc) : Buf (Elt F) ((c : Thread nD τ).loc b) := V3 m c (dev b)
def V4 (d : Dev nD) : Valuation τ sig (Elt F) := Function.update (V3 m d) (dev main_v6) (finArr (V3' m) d)
def V5 (d : Dev nD) : Valuation τ sig (Elt F) := opCut.result (opRows.result (V4 m d))

/-- Every array of the device, and every one but the flat words, which the tiles keep. -/
abbrev allRefs : Finset (DevRef τ sig) := Pipeline.ucRefs τ sig
abbrev hostRefs : Finset (DevRef τ sig) := Pipeline.ucRefsBut τ sig {main_v0}

theorem V1_flat (d : Dev nD) : V1 m d (dev main_v0) = flat (arg m d) := by
  refine (StableHlo.reshape_result main_arg0 main_v0 rfl shapeCasts_S32x1000000_S32000000 _ _ (V0 m d)).trans ?_
  funext i
  rfl

theorem V2_of_ne (d : Dev nD) {b : DevRef τ sig} (h0 : b ≠ dev main_v1_0) (h1 : b ≠ dev main_v1_1) : V2 m d b = V1 m d b :=
  (Function.update_of_ne h1 _ _).trans (Function.update_of_ne h0 _ _)
theorem V2_keys (d : Dev nD) : V2 m d (dev main_v1_0) = keys (F := F) (flat (arg m d)) :=
  (Function.update_of_ne (show dev main_v1_0 ≠ dev main_v1_1 by decide) _ _).trans (Function.update_self _ _ _)
theorem V2_sums (d : Dev nD) : V2 m d (dev main_v1_1) = sums (F := F) (flat (arg m d)) := Function.update_self _ _ _

theorem V4_eq (d : Dev nD) : after1 (V3' m) d = fun b => V4 m d (dev b) := by
  funext b
  by_cases h : b = main_v6
  · subst h; rw [after1_out]; unfold V4; rw [Function.update_self]
  · exact (after1_ne _ _ h).trans (Function.update_of_ne (fun e => h (Proc.devRef_injective _ e)) _ _).symm

theorem held_all (d : Dev nD) (W : Valuation τ sig (Elt F)) :
    (held (SparseCore.T d) allRefs W : sProp 𝕄) = iprop((x0Loc d ↦{fullShare} W (dev main_v0)) ∗ held (SparseCore.T d) hostRefs W) := by
  have h := Pipeline.unscopedBufs_sdiff (Ix := HIx 1) (Name := ℕ) (U := UU) (Lvl := ℕ) {main_v0} (by decide) d (fun b => W (dev b))
  rw [bigSep_singleton, Pipeline.unscopedBufsBut_held] at h
  rw [← Pipeline.unscopedBufs_held]
  exact h

theorem held_host (d : Dev nD) (W : Valuation τ sig (Elt F)) :
    (held (SparseCore.T d) hostRefs W : sProp 𝕄)
      = iprop((k0Loc d ↦{fullShare} W (dev main_v1_0)) ∗ (s0Loc d ↦{fullShare} W (dev main_v1_1))
          ∗ held (SparseCore.T d) ((hostRefs.erase (dev main_v1_0)).erase (dev main_v1_1)) W) := by
  unfold held
  rw [SparseCore.bigSep_erase' (show dev main_v1_0 ∈ hostRefs by decide),
    SparseCore.bigSep_erase' (show dev main_v1_1 ∈ hostRefs.erase (dev main_v1_0) by decide)]

theorem held_after (d : Dev nD) :
    (held (SparseCore.T d) ((hostRefs.erase (dev main_v1_0)).erase (dev main_v1_1)) (V1 m d) : sProp 𝕄)
      = held (SparseCore.T d) ((hostRefs.erase (dev main_v1_0)).erase (dev main_v1_1)) (V2 m d) := by
  unfold held
  refine bigSep_congr fun b hb => ?_
  rw [V2_of_ne m d (Finset.mem_erase.mp (Finset.mem_erase.mp hb).2).1 (Finset.mem_erase.mp hb).1]

theorem in_flat : (opFlat (F := F)).bufs ⊆ allRefs := show ({dev main_arg0, dev main_v0} : Finset (DevRef τ sig)) ⊆ allRefs by decide
theorem in_keys : (opKeys (F := F)).bufs ⊆ hostRefs := show ({dev main_v1_0, dev main_v2} : Finset (DevRef τ sig)) ⊆ hostRefs by decide
theorem in_sums : (opSums (F := F)).bufs ⊆ hostRefs := show ({dev main_v1_1, dev main_v3} : Finset (DevRef τ sig)) ⊆ hostRefs by decide
theorem in_fill : (opFill (F := F)).bufs ⊆ hostRefs := show ({dev main_c} : Finset (DevRef τ sig)) ⊆ hostRefs by decide
theorem in_pad : (opPad (F := F)).bufs ⊆ hostRefs :=
  show ({dev main_arg0, dev main_c, dev main_v4} : Finset (DevRef τ sig)) ⊆ hostRefs by decide
theorem in_tiles : (opTiles (F := F)).bufs ⊆ hostRefs := show ({dev main_v4, dev main_v5} : Finset (DevRef τ sig)) ⊆ hostRefs by decide
theorem in_rows : (opRows (F := F)).bufs ⊆ hostRefs := show ({dev main_v6, dev main_v7} : Finset (DevRef τ sig)) ⊆ hostRefs by decide
theorem in_cut : (opCut (F := F)).bufs ⊆ hostRefs := show ({dev main_v7, dev main_v8} : Finset (DevRef τ sig)) ⊆ hostRefs by decide

/-! ## The run of @main -/

/-- What @main leaves the claim: the argument and the result at the last valuation. -/
abbrev FIN (d : Dev nD) : sProp 𝕄 :=
  iprop(((SparseCore.T d).loc main_arg0 ↦{fullShare} V5 m d (dev main_arg0)) ∗ (SparseCore.T d).loc main_v8 ↦{fullShare} V5 m d (dev main_v8))

theorem held_fin (d : Dev nD) (W : Valuation τ sig (Elt F)) :
    (held (SparseCore.T d) hostRefs W : sProp 𝕄)
      = iprop(((SparseCore.T d).loc main_arg0 ↦{fullShare} W (dev main_arg0)) ∗ ((SparseCore.T d).loc main_v8 ↦{fullShare} W (dev main_v8))
          ∗ held (SparseCore.T d) ((hostRefs.erase (dev main_arg0)).erase (dev main_v8)) W) := by
  unfold held
  rw [SparseCore.bigSep_erase' (show dev main_arg0 ∈ hostRefs by decide),
    SparseCore.bigSep_erase' (show dev main_v8 ∈ hostRefs.erase (dev main_arg0) by decide)]

variable [∀ e, Nonempty (Elt F e)]

/-- The TensorCore call, inside @main. -/
theorem region_step (κ : GSem nD τ sig → ℕ) (d : Dev nD) (Q : PUnit → sProp 𝕄) :
    iprop((K (F := F)).ctx EH (P m) κ ∗ (K (F := F)).tcSt EH d 1 ∗ boundary (SparseCore.T d) ∗ held (SparseCore.T d) hostRefs (V3 m d) ∗ G d
        ∗ (((K (F := F)).tcSt EH d 1 ∗ boundary (SparseCore.T d) ∗ held (SparseCore.T d) hostRefs (V4 m d)) -∗ Q ⟨⟩))
      ⊢ wp frame (wpE ((K (F := F)).defs (D (F := F))) 𝒱 (SparseCore.T d) none) Set.univ
          (Prog.lift (.customCall (SparseCore.inner (Pipeline.entry 0)) ())) Q := by
  have hlift := (K (F := F)).wp_liftProg (D (F := F)) 𝒱 (SparseCore.T d) Set.univ (Name := ℕ) (U := UU) none
    (.op (.customCall (Pipeline.entry 0) ()) .ret) Q
  refine BI.Entails.trans (entails_of ?_) hlift
  unfold SparseCore.Cfg.tcSt
  rw [(K (F := F)).Otc_end d (le_refl 1)]
  iintro ⟨#Hctx, ⟨⟨%W, %hW, HO⟩, Hst⟩, Hb, Hh, ⟨Hc, Ht⟩, Hk⟩
  iapply (Pipeline.RegionSeg.wp (pcfgs (F := F)) adm (pdats (V3' m)) none cellOf_inj EP defs₀ 𝒱₀ (K (F := F)).L (K (F := F)).lev
    (region (V3' m)) d none (fun u h => nomatch h) .ret Q)
  isplitl [Hst Hk]
  · rw [show (region (V3' m)).post d = iprop(Pipeline.unscopedBufsBut {main_v0} d (after1 (V3' m) d) ∗ idle d) from rfl, V4_eq]
    rw [Pipeline.unscopedBufsBut_held]
    unfold idle
    iintro ⟨Hb, Hh, ⟨%W', %hW', HO⟩⟩
    rw [wp_ret]; imodintro
    iapply Hk
    isplitl [Hst HO]
    · isplitl [HO]
      · iexists W'
        isplitr; · ipureintro; exact hW'
        iexact HO
      iexact Hst
    isplitl [Hb] <;> iassumption
  isplitl [Hb]; · iexact Hb
  isplitl [Hh HO]
  · rw [show (region (V3' m)).pre d = iprop(Pipeline.unscopedBufsBut {main_v0} d (V3' m d) ∗ idle d) from rfl,
      show V3' m d = fun b => V3 m d (dev b) from rfl, Pipeline.unscopedBufsBut_held]
    unfold idle
    isplitl [Hh]; · iexact Hh
    iexists W
    isplitr; · ipureintro; exact hW
    iexact HO
  isplitr; · iapply (SparseCore.Cfg.ctx_levAts κ); iexact Hctx
  isplitl [Hc] <;> iassumption

theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) allRefs (V0 m d) from
    Pipeline.unscopedBufs_held d (V0 m d)]
  simp only [main, fn_pad.body, wp_bind, wp_pure]
  iintro ⟨#Hctx, Hst, ⟨Hb, Hh, Hts, -⟩, HG⟩
  iapply (wp_hlo_within 𝒱 (SparseCore.T d) none Set.univ (op := opFlat) (S := allRefs) in_flat (V := V0 m d)) $$ [Hb Hh]
  · isplitl [Hb] <;> iassumption
  iintro ⟨Hb, Hh⟩
  rw [wp_ret, show (opFlat (F := F)).result (V0 m d) = V1 m d from rfl]; imodintro
  -- the SparseCore call
  ihave Hh := (Entails.of_eq (held_all (F := F) d (V1 m d))) $$ Hh
  icases Hh with ⟨Hx, Hh⟩
  ihave Hh := (Entails.of_eq (held_host (F := F) d (V1 m d))) $$ Hh
  icases Hh with ⟨Hk, Hs, Hh⟩
  ihave Hx := (Entails.of_eq (congrArg (fun f => (x0Loc d ↦{fullShare} f : sProp 𝕄)) (V1_flat m d))) $$ Hx
  ihave Hh := (Entails.of_eq (held_after m d)) $$ Hh
  iapply ((K (F := F)).wp_run (D (F := F)) 𝒱 (EH := EH) (P := P m) κ d 0) $$ [Hst Hx Hk Hs Hb Hh Hts HG]
  isplitr; · iexact Hctx
  isplitl [Hst]; · iexact Hst
  isplitl [Hx Hk Hs]
  · iapply (st_of m d)
    isplitl [Hx]; · iexact Hx
    isplitl [Hk]
    · iexists _; iexact Hk
    · iexists _; iexact Hs
  iintro ⟨Hst, Hdn⟩
  ihave Hdn := (Entails.of_eq (show (bigSep Finset.univ fun c : Fin ((K (F := F)).nCore 0) => (P m).dn 0 d c)
    = (bigSep Finset.univ fun c : Fin 2 => outAll m d c : sProp 𝕄) from rfl)) $$ Hdn
  ihave Hdn := (dn_to m d) $$ Hdn
  icases Hdn with ⟨Hk, Hs⟩
  ihave Hh : (held (SparseCore.T d) hostRefs (V2 m d) : sProp 𝕄) $$ [Hk Hs Hh]
  · rw [held_host, V2_keys, V2_sums]
    isplitl [Hk]; · iexact Hk
    isplitl [Hs] <;> iassumption
  -- the host's steps up to the TensorCore call
  iapply (wp_hlo_within 𝒱 (SparseCore.T d) none Set.univ (op := opKeys) (S := hostRefs) in_keys (V := V2 m d)) $$ [Hb Hh]
  · isplitl [Hb] <;> iassumption
  iintro ⟨Hb, Hh⟩
  rw [wp_ret]; imodintro
  iapply (wp_hlo_within 𝒱 (SparseCore.T d) none Set.univ (op := opSums) (S := hostRefs) in_sums (V := _)) $$ [Hb Hh]
  · isplitl [Hb] <;> iassumption
  iintro ⟨Hb, Hh⟩
  rw [wp_ret]; imodintro
  iapply (wp_hlo_within 𝒱 (SparseCore.T d) none Set.univ (op := opFill) (S := hostRefs) in_fill (V := _)) $$ [Hb Hh]
  · isplitl [Hb] <;> iassumption
  iintro ⟨Hb, Hh⟩
  rw [wp_ret]; imodintro
  iapply (wp_hlo_within 𝒱 (SparseCore.T d) none Set.univ (op := opPad) (S := hostRefs) in_pad (V := _)) $$ [Hb Hh]
  · isplitl [Hb] <;> iassumption
  iintro ⟨Hb, Hh⟩
  rw [wp_ret]; imodintro; imodintro
  iapply (wp_hlo_within 𝒱 (SparseCore.T d) none Set.univ (op := opTiles) (S := hostRefs) in_tiles (V := _)) $$ [Hb Hh]
  · isplitl [Hb] <;> iassumption
  iintro ⟨Hb, Hh⟩
  rw [wp_ret]; imodintro
  -- the TensorCore call
  iapply (region_step m κ d)
  isplitr; · iexact Hctx
  isplitl [Hst]; · iexact Hst
  isplitl [Hb]; · iexact Hb
  isplitl [Hh]; · iexact Hh
  isplitl [HG]; · iexact HG
  iintro ⟨Hst, Hb, Hh⟩
  iapply (wp_hlo_within 𝒱 (SparseCore.T d) none Set.univ (op := opRows) (S := hostRefs) in_rows (V := V4 m d)) $$ [Hb Hh]
  · isplitl [Hb] <;> iassumption
  iintro ⟨Hb, Hh⟩
  rw [wp_ret]; imodintro
  iapply (wp_hlo_within 𝒱 (SparseCore.T d) none Set.univ (op := opCut) (S := hostRefs) in_cut (V := _)) $$ [Hb Hh]
  · isplitl [Hb] <;> iassumption
  iintro ⟨Hb, Hh⟩
  rw [wp_ret]; imodintro; imodintro
  ihave Hh := (Entails.of_eq (show (held (SparseCore.T d) hostRefs (opCut.result (opRows.result (V4 m d))) : sProp 𝕄)
    = held (SparseCore.T d) hostRefs (V5 m d) from rfl)) $$ Hh
  ihave Hh := (Entails.of_eq (held_fin (F := F) d (V5 m d))) $$ Hh
  icases Hh with ⟨Ha, Ho, -⟩
  isplitl [Hst]; · iexact Hst
  isplitl [Ha Ho]
  · isplitl [Ha] <;> iassumption
  isplitl [Hb] <;> iassumption

/-! ## What every run ends with -/

def fq (d : Dev nD) (s' : Phys nD τ sig (Elt F)) : Prop :=
  s'.mem.mem ((SparseCore.T d).loc main_arg0) = V5 m d (dev main_arg0) ∧ s'.mem.mem ((SparseCore.T d).loc main_v8) = V5 m d (dev main_v8)

theorem hfin (d : Dev nD) (s' : Phys nD τ sig (Elt F)) : iprop(FIN m d ∗ SI s') ⊢ (⌜fq m d s'⌝ : sProp 𝕄) := by
  iintro ⟨⟨Ha, Ho⟩, HSI⟩
  icombine HSI Ha gives %ha
  icombine HSI Ho gives %ho
  ipureintro
  exact ⟨Buf.eq_of_forall_mem_univ ha, Buf.eq_of_forall_mem_univ ho⟩

def QC : PUnit × MemSt nD τ sig (Elt F) → Prop := fun r =>
  (∀ d : Dev nD, r.2.mem ((SparseCore.T d).loc main_arg0) = V5 m d (dev main_arg0) ∧ r.2.mem ((SparseCore.T d).loc main_v8) = V5 m d (dev main_v8))
    ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof

end
-- ==== Proof.Frames.lean ====
/- The kernel runs from any memory, leaves its argument as it was and every semaphore at zero: at the ideal numbers, and,
   its printed program being the same, at the machine's. -/
module

public import proofs.«01_k».proof.Proof.Main
public import proofs.«01_k».proof.Proof.Gen.Kernel

@[expose] public section

noncomputable section

namespace Cert.Proof

open Idealize.ShloMosaic Idealize.ShloMosaic.TcCoe
open Idealize.SL Idealize.SL.Sem

section

open Cert.KernelIdeal

variable {F : FTy → Type} [FloatOps F] (m : (ℓ : Loc nD τ sig) → Buf (Elt F) ℓ)

/-- A step that writes one array leaves the others. -/
theorem keep {op : HloOp τ sig (Elt F)} {y : Ref sig .tc} (hw : op.writes = {dev y}) (W : Valuation τ sig (Elt F)) {b : Ref sig .tc}
    (h : b ≠ y) : op.result W (dev b) = W (dev b) :=
  op.result_of_not_mem W (by rw [hw, Finset.mem_singleton]; exact fun e => h (Proc.devRef_injective _ e))

theorem w_flat : (opFlat (F := F)).writes = {dev main_v0} := rfl
theorem w_keys : (opKeys (F := F)).writes = {dev main_v2} := rfl
theorem w_sums : (opSums (F := F)).writes = {dev main_v3} := rfl
theorem w_fill : (opFill (F := F)).writes = {dev main_c} := rfl
theorem w_pad : (opPad (F := F)).writes = {dev main_v4} := rfl
theorem w_tiles : (opTiles (F := F)).writes = {dev main_v5} := rfl
theorem w_rows : (opRows (F := F)).writes = {dev main_v7} := rfl
theorem w_cut : (opCut (F := F)).writes = {dev main_v8} := rfl

/-- Nothing writes the argument: before the TensorCore call, and to the end. -/
theorem V2_arg (d : Dev nD) : V2 m d (dev main_arg0) = arg m d := by
  rw [V2_of_ne m d (by decide) (by decide)]
  exact keep w_flat _ (by decide)

theorem V5_arg (d : Dev nD) : V5 m d (dev main_arg0) = arg m d := by
  unfold V5
  rw [keep w_cut _ (by decide), keep w_rows _ (by decide)]
  refine (Function.update_of_ne (by decide) _ _).trans ?_
  unfold V3
  rw [keep w_tiles _ (by decide), keep w_pad _ (by decide), keep w_fill _ (by decide), keep w_sums _ (by decide),
    keep w_keys _ (by decide), V2_arg]

/-- What every run of the kernel ends with, over any floats. -/
theorem run_any [∀ e, Nonempty (Elt F e)] (ρ : Dev nD → PrngReg) :
    θ_run (defs (F := F)) (threads (F := F)) ⟨m, fun _ => 0, ρ⟩ fun r =>
      (∀ d : Dev nD, r.2.mem ((SparseCore.T d).loc main_arg0) = m ((SparseCore.T d).loc main_arg0)
        ∧ r.2.mem ((SparseCore.T d).loc main_v8) = V5 m d (dev main_v8)) ∧ r.2.sem = fun _ => 0 :=
  (θ_run (defs (F := F)) _ _).mono (fun _ h => ⟨fun d => ⟨(h.1 d).1.trans (V5_arg m d), (h.1 d).2⟩, h.2⟩) (run_main m ρ)

end

/-! ## The two printed programs are one -/

set_option maxRecDepth 65536 in
theorem main_same {F : FTy → Type} [FloatOps F] : Cert.Kernel.main (F := F) = Cert.KernelIdeal.main (F := F) := rfl

theorem bodies_same {F : FTy → Type} [FloatOps F] : Cert.Kernel.defs₀ (F := F) = Cert.KernelIdeal.defs₀ (F := F) := by
  funext p l a
  match p, l, a with
  | .tc, 0, _ => rfl
  | .tc, 1, _ => rfl
  | .scScalar _, 0, _ => rfl
  | .scScalar _, 1, _ => rfl
  | .scVector _ _, 0, _ => rfl
  | .scVector _ _, 1, _ => rfl

theorem defs_same {F : FTy → Type} [FloatOps F] : Cert.Kernel.defs (F := F) = Cert.KernelIdeal.defs (F := F) :=
  congrArg (fun b => SparseCore.Cfg.defs (Cert.KernelIdeal.sc (F := F)) (Pipeline.defs (Cert.KernelIdeal.pcfgs (F := F)) b)) bodies_same

theorem threads_same {F : FTy → Type} [FloatOps F] : Cert.Kernel.threads (F := F) = Cert.KernelIdeal.threads (F := F) :=
  congrArg (fun b => SparseCore.Cfg.threads (Cert.KernelIdeal.sc (F := F)) b) main_same

theorem frame_Kernel : Cert.quiescent_Kernel := fun m ρ _ => by
  rw [show Cert.Kernel.defs (F := Bits) = Cert.KernelIdeal.defs (F := Bits) from defs_same,
    show Cert.Kernel.threads (F := Bits) = Cert.KernelIdeal.threads (F := Bits) from threads_same]
  exact (θ_run (Cert.KernelIdeal.defs (F := Bits)) _ _).mono (fun _ h => ⟨fun c => (h.1 c).1, h.2⟩) (run_any (F := Bits) m ρ)

theorem frame_KernelIdeal : Cert.quiescent_KernelIdeal := fun m ρ _ =>
  (θ_run (Cert.KernelIdeal.defs (F := Ideal)) _ _).mono (fun _ h => ⟨fun c => (h.1 c).1, h.2⟩) (run_any (F := Ideal) m ρ)

end Cert.Proof

end
-- ==== Proof.Cells.lean ====
/- The array the TensorCore call leaves, an entry at a time: each is its word's entry under its row's threshold and
   kept mass. -/
module

public import proofs.«01_k».proof.Proof.Frames
public import Idealize.ShloMosaic.Lib.Pipeline.ValueKit
public import Idealize.ShloMosaic.Lib.ValueIdx

@[expose] public section

noncomputable section

namespace Cert.Proof

open Cert.KernelIdeal Cert.KernelIdeal.Gen
open Idealize.ShloMosaic hiding ix2 ix3 eq_ix3
open Idealize.ShloMosaic.TcCoe
open Idealize.ShloMosaic.ValueIdx
open Idealize.SL Idealize.SL.Sem
open Idealize.ShloMosaic.Pipeline (Dat Cfg Window)

variable {F : FTy → Type} [FloatOps F]

/-- A word's entry of the result: the word's value less the logarithm of the kept mass `s` where its key reaches `k`. -/
def cell (x k : BitVec 32) (s : F .f32) : F .f32 :=
  Scalar.select (IntOp.cmpi .uge (key (F := F) x) k)
    (FloatOps.subf (FloatOps.ofBits (F := F) .f32 x) (Scalar.log s)) (FloatOps.ofBits (F := F) .f32 0xFF800000#32)

theorem cell_at {S : Shape} (x : IVec S 32) (k : BitVec 32) (s : F .f32) (i : S.Idx) :
    select (cmpi .uge (select (cmpf .olt (bitcastToFloat (F := F) .f32 x) (broadcast S (FloatOps.ofBits .f32 0#32)))
        (xori x (constantI S 32 4294967295#32)) (xori x (broadcast S 2147483648#32))) (broadcast S k))
      (subf (bitcastToFloat (F := F) .f32 x) (broadcast S (Scalar.log s))) (broadcast S (FloatOps.ofBits .f32 4286578688#32)) i
      = cell (F := F) (x i) k s := by
  simp only [select, cmpi, cmpf, bitcastToFloat, broadcast, xori, constantI, subf, cell, key, Scalar.select, Scalar.ofBits]
  rfl

theorem pay_apply (x : Vec F S1x7816x128 .i32) (k : Vec F S1x1x1 .i32) (s : Vec F S1x1x1 .f32) (i : Fin 1) (a : Fin 7816) (b : Fin 128) :
    k1_pay1 x k s (ix3 i a b) = cell (F := F) (x (ix3 i a b)) (k (ix3 0 0 0)) (s (ix3 0 0 0)) := by
  unfold k1_pay1
  rw [shapeCast_apply _ shapeCasts_S7816x128_S1x7816x128 (ix3 i a b) (ix2 a b)
    (by rw [Shape.rowMajor_val_two, Shape.rowMajor_val_three]; show a.val * 128 + b.val = (i.val * 7816 + a.val) * 128 + b.val; omega)]
  have e : shapeCast S7816x128 x shapeCasts_S1x7816x128_S7816x128 (ix2 a b) = x (ix3 i a b) :=
    shapeCast_apply _ _ _ _
      (by rw [Shape.rowMajor_val_two, Shape.rowMajor_val_three]; show (i.val * 7816 + a.val) * 128 + b.val = a.val * 128 + b.val; omega)
  rw [← e, show k (ix3 0 0 0) = extractAt ![0, 0, 0] k inpos_S1x1x1_p0_0_0 from
      congrArg k (funext fun a => by match a with | 0 => rfl | 1 => rfl | 2 => rfl),
    show s (ix3 0 0 0) = extractAt ![0, 0, 0] s inpos_S1x1x1_p0_0_0 from
      congrArg s (funext fun a => by match a with | 0 => rfl | 1 => rfl | 2 => rfl)]
  exact cell_at (F := F) _ _ _ _

/-- What the body writes of a block, at an entry. -/
theorem finOut_apply (x : Vec F S1x7816x128 .i32) (k : Vec F S1x1x16 .i32) (s : Vec F S1x1x16 .f32) (y : S1x7816x128.Idx) :
    finOut x k s y = cell (F := F) (x y) (k (ix3 0 0 0)) (s (ix3 0 0 0)) := by
  unfold finOut
  obtain ⟨i, a, b, rfl⟩ : ∃ (i : Fin 1) (a : Fin 7816) (b : Fin 128), y = ix3 i a b := ⟨y 0, y 1, y 2, eq_ix3 y⟩
  rw [pay_apply]
  congr 2
  · exact congrArg k (funext fun a => by match a with | 0 => rfl | 1 => rfl | 2 => rfl)
  · exact congrArg s (funext fun a => by match a with | 0 => rfl | 1 => rfl | 2 => rfl)

/-- The array of results as one function of the words, the thresholds and the kept masses. -/
def cells (x : Vec F S32x7816x128 .i32) (k : Vec F S32x1x16 .i32) (s : Vec F S32x1x16 .f32) : FVec F S32x7816x128 .f32 :=
  fun i => cell (F := F) (x i) (k (ix3 (i 0) 0 0)) (s (ix3 (i 0) 0 0))

variable (Vl : (c : Dev nD) → (b : Ref sig .tc) → Buf (Elt F) ((c : Thread nD τ).loc b))

theorem index_0 : ∀ t : Fin cfg1.N, win1_0.index t = ![(grid1.coords t 0).val, 0, 0] := (by decide +kernel : ∀ t : Fin grid1.N, _)
theorem index_1 : ∀ t : Fin cfg1.N, win1_1.index t = ![(grid1.coords t 0).val, 0, 0] := (by decide +kernel : ∀ t : Fin grid1.N, _)
theorem index_2 : ∀ t : Fin cfg1.N, win1_2.index t = ![(grid1.coords t 0).val, 0, 0] := (by decide +kernel : ∀ t : Fin grid1.N, _)
theorem index_3 : ∀ t : Fin cfg1.N, win1_3.index t = ![(grid1.coords t 0).val, 0, 0] := (by decide +kernel : ∀ t : Fin grid1.N, _)

theorem finArr_eq (c : Dev nD) : finArr Vl c = cells (F := F) (Vl c main_v5) (Vl c main_v2) (Vl c main_v3) := by
  refine (dat Vl c).arrAt_eq_of_covers 3 _ (by decide +kernel) fun t hf y => ?_
  blk_simp
  show finOut (blk0 Vl c t) (blk1 Vl c t) (blk2 Vl c t) y = _
  rw [finOut_apply]
  unfold cells
  blk_simp [blk0, blk1, blk2]
  have e0 : (win1_0.blk t).view.emb y = (win1_3.blk t).view.emb y := by blk_ext [index_0 t, index_3 t]
  have e3 : ((win1_3.blk t).view.emb y 0 : ℕ) = (grid1.coords t 0).val := by blk_simp [index_3 t]
  have e1 : ∀ r : Fin 32, (r : ℕ) = (grid1.coords t 0).val → (win1_1.blk t).view.emb (ix3 0 0 0) = ix3 r 0 0 := fun r h => by
    blk_ext [index_1 t]; exact h.symm
  have e2 : ∀ r : Fin 32, (r : ℕ) = (grid1.coords t 0).val → (win1_2.blk t).view.emb (ix3 0 0 0) = ix3 r 0 0 := fun r h => by
    blk_ext [index_2 t]; exact h.symm
  rw [e0, e1 _ e3, e2 _ e3]

end Cert.Proof

end
-- ==== Proof.Words.lean ====
/- The words of the argument as real numbers: what a plain word is, the number it stands for, and that the kernel's
   ordered key, its low eight bits dropped, orders the words as the reference's ranks do. A word that may stand in the
   argument is a plain one or stands for the bottom, as minus infinity and the words of no number do. -/
module

public import proofs.«01_k».proof.Proof.Spec
public import Idealize.ShloMosaic.Lib.TotalOrder

@[expose] public section

noncomputable section

namespace Cert.Proof

open Idealize.ShloMosaic

/-- A word that stands for a finite number and, its low eight bits dropped, isn't the negative zero. -/
def Plain (u : BitVec 32) : Prop :=
  u &&& 0x7F800000#32 ≠ 0x7F800000#32 ∧ u &&& 0xFFFFFF00#32 ≠ 0x80000000#32

/-- A word the argument may hold: it isn't plus infinity's and, its low eight bits dropped, isn't the negative zero. -/
def Ok (u : BitVec 32) : Prop := u ≠ 0x7F800000#32 ∧ u &&& 0xFFFFFF00#32 ≠ 0x80000000#32

/-- The number a word stands for. -/
def val (u : BitVec 32) : ℝ := (Ideal.ofBits .f32 u).toReal

/-- The top twenty-four bits of a word's ordered key. -/
def top (u : BitVec 32) : ℕ := (key (F := Ideal) u).toNat / 256

theorem top_lt (u : BitVec 32) : top u < 4096 * 4096 := by
  have := (key (F := Ideal) u).isLt
  unfold top; omega

theorem expMask (u : BitVec 32) : u &&& 0x7F800000#32 = ((u >>> 23) &&& 255#32) <<< 23 := by
  apply BitVec.eq_of_getLsbD_eq
  intro i hi
  interval_cases i <;> simp

theorem topMask (u : BitVec 32) : u &&& 0xFFFFFF00#32 = (u >>> 8) <<< 8 := by
  apply BitVec.eq_of_getLsbD_eq
  intro i hi
  interval_cases i <;> simp

theorem expMask_toNat (u : BitVec 32) : (u &&& 0x7F800000#32).toNat = u.toNat / 2 ^ 23 % 256 * 2 ^ 23 := by
  have h255 : (255#32 : BitVec 32).toNat = 2 ^ 8 - 1 := rfl
  rw [expMask, BitVec.toNat_shiftLeft, BitVec.toNat_and, BitVec.toNat_ushiftRight, h255, Nat.and_two_pow_sub_one_eq_mod,
    Nat.shiftLeft_eq, Nat.shiftRight_eq_div_pow]
  omega

theorem topMask_toNat (u : BitVec 32) : (u &&& 0xFFFFFF00#32).toNat = u.toNat / 256 * 256 := by
  have := u.isLt
  rw [topMask, BitVec.toNat_shiftLeft, BitVec.toNat_ushiftRight, Nat.shiftLeft_eq, Nat.shiftRight_eq_div_pow]
  omega

theorem Plain.expo_ne {u : BitVec 32} (h : Plain u) : u.toNat / 2 ^ 23 % 256 ≠ 255 := fun e =>
  h.1 (BitVec.eq_of_toNat_eq (by rw [expMask_toNat, e]; rfl))

/-- Dropping the low eight bits leaves a word plain. -/
theorem Plain.drop {u : BitVec 32} (h : Plain u) : Plain (u &&& 0xFFFFFF00#32) := by
  refine ⟨fun e => h.1 ?_, fun e => h.2 ?_⟩
  · rw [BitVec.and_assoc] at e; exact e
  · rw [BitVec.and_assoc] at e; exact e

theorem Plain.ne_negZero {u : BitVec 32} (h : Plain u) : u ≠ 0x80000000#32 := fun e => h.2 (by rw [e]; rfl)

theorem plain_zero : Plain 0#32 := ⟨by decide, by decide⟩

theorem Plain.notNaN {u : BitVec 32} (h : Plain u) : ¬TotalOrder.IsNaN 8 23 u := fun e => h.expo_ne (by
  have := e.1
  rwa [TotalOrder.expo_eq] at this)

/-- Plain words compare as their total-order keys. -/
theorem Plain.lt_iff {u v : BitVec 32} (hu : Plain u) (hv : Plain v) :
    Ideal.ofBits .f32 u < Ideal.ofBits .f32 v ↔ (totalOrderKey u).toNat < (totalOrderKey v).toNat := by
  have hz : ¬TotalOrder.OppositeZeros 8 23 u v := fun h =>
    ((TotalOrder.oppositeZeros_f32_iff u v).mp h).elim (fun h => hu.ne_negZero h.1) (fun h => hv.ne_negZero h.2)
  exact (TotalOrder.lt_iff (e := 8) (m := 23) hu.notNaN hv.notNaN hz).symm

/-- A plain word stands for a real number. -/
theorem Plain.ofBits {u : BitVec 32} (h : Plain u) : Ideal.ofBits .f32 u = (val u : EReal) := by
  have hx : (u.extractLsb' 23 8).toNat ≠ 2 ^ 8 - 1 := by
    rw [BitVec.extractLsb'_toNat, Nat.shiftRight_eq_div_pow]; exact h.expo_ne
  have : ∃ r : ℝ, Ideal.ofBits .f32 u = (r : EReal) := by
    show ∃ r : ℝ, Ideal.ieee 8 23 u = (r : EReal)
    unfold Ideal.ieee
    simp only
    rw [if_neg hx]
    split
    · exact ⟨_, rfl⟩
    · exact ⟨_, rfl⟩
  obtain ⟨r, hr⟩ := this
  unfold val
  rw [hr, EReal.toReal_coe]

/-- A word that may stand in the argument is plain or stands for the bottom. -/
theorem Ok.cases {u : BitVec 32} (h : Ok u) : Plain u ∨ Ideal.ofBits .f32 u = ⊥ := by
  by_cases hp : u &&& 0x7F800000#32 = 0x7F800000#32
  · right
    have he : (u.extractLsb' 23 8).toNat = 2 ^ 8 - 1 := by
      have e := congrArg BitVec.toNat hp
      rw [expMask_toNat, show (0x7F800000#32 : BitVec 32).toNat = 255 * 2 ^ 23 from rfl] at e
      rw [BitVec.extractLsb'_toNat, Nat.shiftRight_eq_div_pow]
      omega
    show Ideal.ieee 8 23 u = ⊥
    unfold Ideal.ieee
    simp only
    rw [if_pos he]
    split_ifs with hf hn
    · rfl
    · refine absurd (BitVec.eq_of_toNat_eq ?_) h.1
      have hs : (u.extractLsb' (8 + 23) 1).toNat ≠ 1 := fun e => hn (beq_iff_eq.2 (BitVec.eq_of_toNat_eq e))
      rw [BitVec.extractLsb'_toNat, Nat.shiftRight_eq_div_pow] at he hf hs
      have := u.isLt
      rw [show (0x7F800000#32 : BitVec 32).toNat = 255 * 2 ^ 23 from rfl]
      omega
    · rfl
  · exact Or.inl ⟨hp, h.2⟩

theorem ofBits_zero : Ideal.ofBits .f32 0x00000000#32 = 0 := by
  simp [Ideal.ofBits, Ideal.ieee]
theorem ofBits_bot : Ideal.ofBits .f32 0xFF800000#32 = ⊥ := by simp [Ideal.ofBits, Ideal.ieee]

theorem totalOrderKey_neg {u : BitVec 32} (h : u.msb = true) : totalOrderKey u = ~~~u := by
  unfold totalOrderKey; rw [if_pos h]
theorem totalOrderKey_pos {u : BitVec 32} (h : u.msb = false) : (totalOrderKey u).toNat = u.toNat + 2 ^ 31 := by
  unfold totalOrderKey
  have hb := BitVec.msb_eq_false_iff_two_mul_lt.mp h
  rw [if_neg (by rw [h]; decide), BitVec.toNat_or, BitVec.toNat_intMin,
    show 2 ^ (32 - 1) % 2 ^ 32 = 2 ^ 31 from rfl, Nat.or_comm]
  have := Nat.two_pow_add_eq_or_of_lt (i := 31) (b := u.toNat) (by omega) 1
  rw [Nat.mul_one] at this
  rw [← this, Nat.add_comm]
theorem not_toNat (u : BitVec 32) : (~~~u).toNat = 2 ^ 32 - 1 - u.toNat := BitVec.toNat_not

/-- The kernel's key of a plain word is its total-order key. -/
theorem Plain.key_eq {u : BitVec 32} (h : Plain u) : key (F := Ideal) u = totalOrderKey u := by
  have hz : (totalOrderKey 0#32).toNat = 2 ^ 31 := by decide
  have hlt := h.lt_iff plain_zero
  rw [hz, ofBits_zero] at hlt
  have hc : key (F := Ideal) u = if Ideal.ofBits .f32 u < 0 then u ^^^ 4294967295#32 else u ^^^ 2147483648#32 := by
    show Scalar.select (Ideal.cmp .olt (Ideal.ofBits .f32 u) (Ideal.ofBits .f32 0x00000000#32)) _ _ = _
    rw [ofBits_zero]
    unfold Ideal.cmp Scalar.select
    by_cases hx : Ideal.ofBits .f32 u < 0
    · simp [hx]
    · simp [hx]
  have hu := u.isLt
  rw [hc]
  cases hm : u.msb
  · have hk := totalOrderKey_pos hm
    rw [if_neg (by rw [hlt, hk]; omega)]
    unfold totalOrderKey
    rw [if_neg (by rw [hm]; decide), show BitVec.intMin 32 = 2147483648#32 from rfl]
    apply BitVec.eq_of_getLsbD_eq
    intro i hi
    have h31 : u.getLsbD 31 = false := hm
    by_cases hi31 : i = 31
    · subst hi31; rw [BitVec.getLsbD_xor, BitVec.getLsbD_or, h31]; rfl
    · interval_cases i <;> first | exact absurd rfl hi31 | simp
  · have hb := BitVec.msb_eq_true_iff_two_mul_ge.mp hm
    have hk := totalOrderKey_neg hm
    rw [if_pos (by rw [hlt, hk, not_toNat]; omega), hk]
    rw [show (4294967295#32 : BitVec 32) = BitVec.allOnes 32 from rfl, BitVec.xor_allOnes]

/-- The ranks, the words' numbers with the low eight bits dropped, are ordered as the keys' top bits. -/
theorem Plain.rank_lt_iff {u v : BitVec 32} (hu : Plain u) (hv : Plain v) :
    Ideal.ofBits .f32 (u &&& 0xFFFFFF00#32) < Ideal.ofBits .f32 (v &&& 0xFFFFFF00#32) ↔ top u < top v := by
  rw [hu.drop.lt_iff hv.drop]
  unfold top
  rw [hu.key_eq, hv.key_eq]
  have hd : ∀ x : BitVec 32, (x &&& 0xFFFFFF00#32).msb = x.msb := fun x => by
    show (x &&& 0xFFFFFF00#32).getMsbD 0 = x.getMsbD 0
    simp
  have key : ∀ x : BitVec 32, (totalOrderKey (x &&& 0xFFFFFF00#32)).toNat / 256 = (totalOrderKey x).toNat / 256
      ∧ ((x.msb = true ∧ (totalOrderKey (x &&& 0xFFFFFF00#32)).toNat % 256 = 255 ∧ (totalOrderKey x).toNat < 2 ^ 31)
        ∨ (x.msb = false ∧ (totalOrderKey (x &&& 0xFFFFFF00#32)).toNat % 256 = 0 ∧ 2 ^ 31 ≤ (totalOrderKey x).toNat)) := by
    intro x
    have hx := x.isLt
    cases hm : x.msb
    · rw [totalOrderKey_pos hm, totalOrderKey_pos ((hd x).trans hm), topMask_toNat]
      refine ⟨by omega, Or.inr ⟨rfl, by omega, by omega⟩⟩
    · have hb := BitVec.msb_eq_true_iff_two_mul_ge.mp hm
      rw [totalOrderKey_neg hm, totalOrderKey_neg ((hd x).trans hm), not_toNat, not_toNat, topMask_toNat]
      refine ⟨by omega, Or.inl ⟨rfl, by omega, by omega⟩⟩
  have ku := key u
  have kv := key v
  omega

end Cert.Proof

end
-- ==== Proof.Hist.lean ====
/- The kernel's histograms over the extended reals: each slot holds the sum of the exponentials that its bin and lane
   name, and the sixteen lanes of a bin, added up, the bin's whole mass. -/
module

public import proofs.«01_k».proof.Proof.Words
public import Idealize.ShloMosaic.PureOps.Ideal.Laws

@[expose] public section

noncomputable section

namespace Cert.Proof

open Cert.KernelIdeal Cert.KernelIdeal.Gen
open Idealize.ShloMosaic

/-- The exponential of what a word stands for, nothing at the bottom. -/
def wexp (u : BitVec 32) : ℝ := (Ideal.exp (Ideal.ofBits .f32 u)).toReal

theorem Plain.wexp_eq {u : BitVec 32} (h : Plain u) : wexp u = Real.exp (val u) := by
  unfold wexp; rw [h.ofBits, Ideal.exp_coe, EReal.toReal_coe]

theorem Plain.wexp_pos {u : BitVec 32} (h : Plain u) : 0 < wexp u := by
  rw [h.wexp_eq]; exact Real.exp_pos _

theorem wexp_bot {u : BitVec 32} (h : Ideal.ofBits .f32 u = ⊥) : wexp u = 0 := by
  unfold wexp; rw [h, Ideal.exp_bot, EReal.toReal_zero]

theorem wexp_nonneg (u : BitVec 32) : 0 ≤ wexp u := by
  unfold wexp
  induction Ideal.ofBits .f32 u using EReal.rec with
  | bot => simp
  | top => simp
  | coe x => rw [Ideal.exp_coe, EReal.toReal_coe]; exact (Real.exp_pos x).le

/-- The kernel's exponential of a word. -/
theorem Ok.exp {u : BitVec 32} (h : Ok u) : Ideal.exp (Ideal.ofBits .f32 u) = (wexp u : EReal) := by
  rcases h.cases with h | h
  · rw [h.wexp_eq, h.ofBits, Ideal.exp_coe]
  · rw [wexp_bot h, h, Ideal.exp_bot, EReal.coe_zero]

/-- The sum, over the words of `w` among the first `16 n` that lie in lane `l` and satisfy `q`, of the exponentials. -/
def laneSum (w : ℕ → BitVec 32) (q : ℕ → Prop) [DecidablePred q] (l n : ℕ) : ℝ :=
  ∑ j ∈ Finset.range n, if q (16 * j + l) then wexp (w (16 * j + l)) else 0

/-- The sixteen lanes together are the words in their order. -/
theorem sum_lanes (w : ℕ → BitVec 32) (q : ℕ → Prop) [DecidablePred q] (n : ℕ) :
    ∑ l ∈ Finset.range 16, laneSum w q l n = ∑ i ∈ Finset.range (16 * n), if q i then wexp (w i) else 0 := by
  induction n with
  | zero => simp [laneSum]
  | succ n ih =>
    rw [show 16 * (n + 1) = 16 * n + 16 by ring, Finset.sum_range_add, ← ih, ← Finset.sum_add_distrib]
    refine Finset.sum_congr rfl fun l _ => ?_
    unfold laneSum
    rw [Finset.sum_range_succ]

/-- Steps that each add `g k` at `p` add the sum of the `g k` there. -/
theorem foldl_add {α κ : Type} (step : (α → EReal) → κ → α → EReal) (g : κ → EReal) (p : α)
    (hstep : ∀ f k, step f k p = f p + g k) (l : List κ) (f : α → EReal) : l.foldl step f p = f p + (l.map g).sum := by
  induction l generalizing f with
  | nil => simp
  | cons k l ih => rw [List.foldl_cons, ih, List.map_cons, List.sum_cons, ← add_assoc, hstep]

/-- An adding indexed store, read at one slot: what was there and what the lanes that name the slot bring. -/
theorem storeIdx_apply (f : Vec Ideal S65536 .f32) (idx : IVec S16 32) (v : Vec Ideal S16 .f32) (mask : IVec S16 1)
    (h : ∀ (a : Fin 1) (x : S16.Idx), ((![idx] : Fin 1 → IVec S16 32) a x).toNat < S65536.size a) (p : S65536.Idx) :
    storeIdx (F := Ideal) (e := .f32) f ![idx] v mask true h p
      = (f p : EReal) + ∑ k : Fin 16, if mask (Shape.ofLane k) = 1 ∧ (p 0).val = (idx (Shape.ofLane k)).toNat
          then (v (Shape.ofLane k) : EReal) else 0 := by
  rw [← List.sum_ofFn, List.ofFn_eq_map]
  refine foldl_add _ _ p (fun f k => ?_) (List.finRange 16) f
  by_cases hm : mask (Shape.ofLane k) = 1
  · simp only [hm, if_true, true_and]
    by_cases hp : (p 0).val = (idx (Shape.ofLane k)).toNat
    · rw [if_pos hp]
      have hi : idxAt (s := S65536) ![idx] h (Shape.ofLane k) = p := idx1_ext hp.symm
      rw [hi]
      exact if_pos fun _ => rfl
    · rw [if_neg hp, add_zero]
      exact if_neg fun e => hp (e 0)
  · simp only [hm, if_false, false_and, add_zero]

/-- Where lane `k` names the slot of bin `β k` in its own lane, slot `(b, l)` receives lane `l`'s value or nothing. -/
theorem store_lane (f : Vec Ideal S65536 .f32) (idx : IVec S16 32) (v : Vec Ideal S16 .f32) (mask : IVec S16 1)
    (h : ∀ (a : Fin 1) (x : S16.Idx), ((![idx] : Fin 1 → IVec S16 32) a x).toNat < S65536.size a) (β : S16.Idx → ℕ)
    (hidx : ∀ x, (idx x).toNat = 16 * β x + (x 0).val) (b l : ℕ) (hb : b < 4096) (hl : l < 16) :
    storeIdx (F := Ideal) (e := .f32) f ![idx] v mask true h (ix (16 * b + l) (by omega))
      = (f (ix (16 * b + l) (by omega)) : EReal) + if mask (ix l hl) = 1 ∧ β (ix l hl) = b then (v (ix l hl) : EReal) else 0 := by
  rw [storeIdx_apply]
  congr 1
  have hlane : ∀ k : Fin 16, ((Shape.ofLane (d := ![16]) k) 0).val = k.val := fun k => rfl
  rw [Finset.sum_eq_single (⟨l, hl⟩ : Fin 16)]
  · have e : (Shape.ofLane (d := ![16]) (⟨l, hl⟩ : Fin 16)) = ix l hl := idx1_ext (by rw [hlane, ix_val])
    rw [e, hidx, ix_val, ix_val]
    refine if_congr (and_congr_right fun _ => ?_) rfl rfl
    omega
  · intro k _ hk
    refine if_neg fun e => hk (Fin.ext ?_)
    have e2 := e.2
    rw [hidx, ix_val, hlane] at e2
    have := k.isLt
    show k.val = l
    omega
  · intro hn; exact absurd (Finset.mem_univ _) hn

variable (w : ℕ → BitVec 32) (hw : ∀ i < 1000000, Ok (w i))

theorem vreg_ix (j l : ℕ) (hl : l < 16) : vreg (F := Ideal) w j (ix l hl) = w (16 * j + l) := by
  show w (16 * j + ((ix l hl) 0).val) = _
  rw [ix_val]

include hw in
theorem exp_vreg (j l : ℕ) (hj : j < 62500) (hl : l < 16) :
    (k0_pay7 (F := Ideal) (vreg (F := Ideal) w j) (ix l hl) : EReal) = (wexp (w (16 * j + l)) : EReal) := by
  show Ideal.exp (Ideal.ofBits .f32 (vreg (F := Ideal) w j (ix l hl))) = _
  rw [vreg_ix, (hw _ (by omega)).exp]

theorem zero_eq : (Scalar.ofBits (F := Ideal) .f32 0x00000000#32 : EReal) = ((0 : ℝ) : EReal) :=
  ofBits_zero.trans EReal.coe_zero.symm

theorem coe_add_ite (x y : ℝ) (c : Prop) [Decidable c] :
    (x : EReal) + (if c then (y : EReal) else 0) = ((x + if c then y else 0 : ℝ) : EReal) := by
  split <;> simp

include hw in
/-- The first histogram: slot `(b, l)` holds the exponentials of lane `l`'s words of first bin `b`. -/
theorem hist1_apply (b l : ℕ) (hb : b < 4096) (hl : l < 16) (n : ℕ) (hn : n ≤ 62500) :
    (hist1 (F := Ideal) w n (ix (16 * b + l) (by omega)) : EReal) = (laneSum w (fun i => (bin1 (F := Ideal) (w i)).toNat = b) l n : EReal) := by
  induction n with
  | zero => exact zero_eq.trans (by simp [laneSum])
  | succ n ih =>
    show (hstep1 (F := Ideal) (hist1 (F := Ideal) w n) (vreg (F := Ideal) w n) (ix (16 * b + l) _) : EReal) = _
    unfold hstep1
    rw [store_lane _ _ _ _ _ (fun x => (bin1 (F := Ideal) (vreg (F := Ideal) w n x)).toNat) (pay8_toNat _) b l hb hl]
    rw [ih (by omega), exp_vreg w hw n l (by omega) hl, vreg_ix]
    unfold laneSum
    rw [Finset.sum_range_succ, ← coe_add_ite]
    congr 1
    exact if_congr (by simp) rfl rfl

include hw in
/-- The second histogram: the exponentials of lane `l`'s words of first bin `c` and second bin `b`. -/
theorem hist2_apply (c : BitVec 32) (b l : ℕ) (hb : b < 4096) (hl : l < 16) (n : ℕ) (hn : n ≤ 62500) :
    (hist2 (F := Ideal) w c n (ix (16 * b + l) (by omega)) : EReal)
      = (laneSum w (fun i => bin1 (F := Ideal) (w i) = c ∧ (bin2 (F := Ideal) (w i)).toNat = b) l n : EReal) := by
  induction n with
  | zero => exact zero_eq.trans (by simp [laneSum])
  | succ n ih =>
    show (hstep2 (F := Ideal) c (hist2 (F := Ideal) w c n) (vreg (F := Ideal) w n) (ix (16 * b + l) _) : EReal) = _
    unfold hstep2
    rw [store_lane _ _ _ _ _ (fun x => (bin2 (F := Ideal) (vreg (F := Ideal) w n x)).toNat) (pay24_toNat _) b l hb hl]
    rw [ih (by omega), show k0_pay22 (F := Ideal) (vreg (F := Ideal) w n) (ix l hl) = _ from exp_vreg w hw n l (by omega) hl,
      pay23_apply, vreg_ix]
    unfold laneSum
    rw [Finset.sum_range_succ, ← coe_add_ite]
    congr 1
    refine if_congr (and_congr_left fun _ => ?_) rfl rfl
    show BitVec.ofBool (_ == _) = 1 ↔ _
    by_cases hc : bin1 (F := Ideal) (w (16 * n + l)) = c
    · simp [hc]
    · rw [beq_false_of_ne hc]
      exact iff_of_false (by decide) hc

include hw in
/-- The running sums: each lane's exponentials. -/
theorem zsum_apply (l : ℕ) (hl : l < 16) (n : ℕ) (hn : n ≤ 62500) :
    (zsum (F := Ideal) w n (ix l hl) : EReal) = (laneSum w (fun _ => True) l n : EReal) := by
  induction n with
  | zero => exact zero_eq.trans (by simp [laneSum])
  | succ n ih =>
    show (zsum (F := Ideal) w n (ix l hl) : EReal) + (k0_pay7 (F := Ideal) (vreg (F := Ideal) w n) (ix l hl) : EReal) = _
    rw [ih (by omega), exp_vreg w hw n l (by omega) hl]
    unfold laneSum
    rw [Finset.sum_range_succ, if_pos trivial, EReal.coe_add]

/-- One lane read out of a vector. -/
theorem extract_lane (v : FVec Ideal S16 .f32) (k : ℕ) (hk : k < 16) (h : S16.Slices ![k] S1) (h') :
    extractAt ![0] (extractStridedSlice S1 ![k] v h) h' = v (ix k hk) := by
  show v _ = v _
  congr 1
  refine idx1_ext ?_
  rw [ix_val]
  rfl

/-- The kernel's sum of a vector's lanes, -/
theorem pay3_eq (r : FVec Ideal S16 .f32) (f : ℕ → ℝ) (hf : ∀ l (hl : l < 16), (r (ix l hl) : EReal) = (f l : EReal)) :
    (k0_pay3 (F := Ideal) r : EReal) = ((∑ l ∈ Finset.range 16, f l : ℝ) : EReal) := by
  unfold k0_pay3
  simp only [extract_lane _ _ (by decide : 0 < 16), extract_lane _ _ (by decide : 1 < 16), extract_lane _ _ (by decide : 2 < 16),
    extract_lane _ _ (by decide : 3 < 16), extract_lane _ _ (by decide : 4 < 16), extract_lane _ _ (by decide : 5 < 16),
    extract_lane _ _ (by decide : 6 < 16), extract_lane _ _ (by decide : 7 < 16), extract_lane _ _ (by decide : 8 < 16),
    extract_lane _ _ (by decide : 9 < 16), extract_lane _ _ (by decide : 10 < 16), extract_lane _ _ (by decide : 11 < 16),
    extract_lane _ _ (by decide : 12 < 16), extract_lane _ _ (by decide : 13 < 16), extract_lane _ _ (by decide : 14 < 16),
    extract_lane _ _ (by decide : 15 < 16), Ideal.scalar_addf_def]
  simp only [hf, Finset.sum_range_succ, Finset.sum_range_zero, EReal.coe_add, EReal.coe_zero, zero_add]

/-- The same sum in the printed target. -/
theorem pay15_eq (v : FVec Ideal S16 .f32) :
    (k0_pay15 (F := Ideal) v (k0_pay14 v) : EReal) = Ideal.ofBits .f32 0x3F666666#32 * (k0_pay3 (F := Ideal) v : EReal) := rfl

end Cert.Proof

end
-- ==== Proof.Scan.lean ====
/- The kernel's two scans over the extended reals: from the top bin down, the first bin at which the running mass
   reaches the target. Together they name a threshold on the words' top 24 bits. -/
module

public import proofs.«01_k».proof.Proof.Hist

@[expose] public section

noncomputable section

namespace Cert.Proof

open Cert.KernelIdeal Cert.KernelIdeal.Gen
open Idealize.ShloMosaic

/-- The share of the mass to be kept: the number the printed literal stands for. -/
def share : ℝ := val 0x3F666666#32

theorem plain_share : Plain 0x3F666666#32 := by constructor <;> decide
theorem plain_one : Plain 0x3F800000#32 := by constructor <;> decide

theorem ofBits_share : Ideal.ofBits .f32 0x3F666666#32 = (share : EReal) := plain_share.ofBits

theorem ofBits_one : Ideal.ofBits .f32 0x3F800000#32 = 1 := by
  simp [Ideal.ofBits, Ideal.ieee]
  rw [← EReal.coe_mul, ← EReal.coe_one]
  norm_num

theorem share_pos : 0 < share := by
  have h := (plain_zero.lt_iff plain_share).mpr (by decide)
  rw [ofBits_zero, ofBits_share] at h
  exact_mod_cast h

theorem share_lt_one : share < 1 := by
  have h := (plain_share.lt_iff plain_one).mpr (by decide)
  rw [ofBits_one, ofBits_share] at h
  exact_mod_cast h

theorem shls_lit (a : BitVec 32) (n : ℕ) (h : n < 32) : IntOp.shli .scalar a (BitVec.ofNat 32 n) = a <<< n := by
  have e : (BitVec.ofNat 32 n).toNat = n := by rw [BitVec.toNat_ofNat]; omega
  unfold IntOp.shli
  rw [if_pos (by rw [e]; exact h), BitVec.shiftLeft_eq', e]

/-- The running mass before trip `n`. -/
def run (a : ℝ) (μ : ℕ → ℝ) (n : ℕ) : ℝ := a + ∑ t ∈ Finset.range n, μ t

theorem run_succ (a : ℝ) (μ : ℕ → ℝ) (n : ℕ) : run a μ (n + 1) = run a μ n + μ n := by
  unfold run; rw [Finset.sum_range_succ, add_assoc]

theorem run_mono (a : ℝ) (μ : ℕ → ℝ) (hμ : ∀ t, 0 ≤ μ t) : Monotone (run a μ) :=
  monotone_nat_of_le_succ fun n => by rw [run_succ]; linarith [hμ n]

/-- A running mass that starts below the target and reaches it crosses it at some trip. -/
theorem exists_crossing (a T : ℝ) (μ : ℕ → ℝ) (N : ℕ) (h0 : a < T) (hN : T ≤ run a μ N) :
    ∃ t < N, run a μ t < T ∧ T ≤ run a μ (t + 1) := by
  classical
  have hex : ∃ n, T ≤ run a μ n := ⟨N, hN⟩
  have hpos : Nat.find hex ≠ 0 := fun e => by
    have h := Nat.find_spec hex
    rw [e] at h
    simp only [run, Finset.range_zero, Finset.sum_empty, add_zero] at h
    linarith
  obtain ⟨t, ht⟩ := Nat.exists_eq_succ_of_ne_zero hpos
  refine ⟨t, ?_, lt_of_not_ge (Nat.find_min hex (by omega)), ?_⟩
  · have := Nat.find_min' hex hN; omega
  · have h := Nat.find_spec hex
    rwa [ht] at h

section Carried

variable (v12 : FVec Ideal S16 .f32) (h : Vec Ideal S65536 .f32) (a0 : Carry Ideal) (a T : ℝ) (μ : ℕ → ℝ)
variable (ha : (a0.1 : EReal) = (a : EReal)) (hT : (k0_pay15 (F := Ideal) v12 (k0_pay14 v12) : EReal) = (T : EReal))
variable (hμ : ∀ t < 4096, (k0_pay3 (F := Ideal) (row h t) : EReal) = (μ t : EReal))

include ha hμ in
theorem scan_run (n : ℕ) (hn : n ≤ 4096) : ((scan v12 h a0 n).1 : EReal) = (run a μ n : EReal) := by
  induction n with
  | zero => exact ha.trans (by simp [run])
  | succ n ih =>
    show ((scan v12 h a0 n).1 : EReal) + (k0_pay3 (F := Ideal) (row h n) : EReal) = _
    rw [ih (by omega), hμ n (by omega), run_succ, EReal.coe_add]

/-- Whether the target is crossed at trip `n`, as the kernel asks it. -/
def crosses (n : ℕ) : BitVec 1 :=
  Scalar.andi (Scalar.cmpf (F := Ideal) .olt (scan v12 h a0 n).1 (k0_pay15 v12 (k0_pay14 v12)))
    (Scalar.cmpf (F := Ideal) .oge (k0_pay16 (scan v12 h a0 n).1 (k0_pay3 (row h n))) (k0_pay15 v12 (k0_pay14 v12)))

include ha hT hμ in
theorem crosses_iff (n : ℕ) (hn : n < 4096) : crosses v12 h a0 n = 1#1 ↔ run a μ n < T ∧ T ≤ run a μ (n + 1) := by
  have e1 := scan_run v12 h a0 a μ ha hμ n (by omega)
  have e2 : ((k0_pay16 (F := Ideal) (scan v12 h a0 n).1 (k0_pay3 (row h n)) : Ideal .f32) : EReal) = (run a μ (n + 1) : EReal) :=
    scan_run v12 h a0 a μ ha hμ (n + 1) (by omega)
  show BitVec.ofBool (decide ((scan v12 h a0 n).1 < (k0_pay15 (F := Ideal) v12 (k0_pay14 v12) : EReal)))
    &&& BitVec.ofBool (decide ((k0_pay15 (F := Ideal) v12 (k0_pay14 v12) : EReal) ≤ k0_pay16 (F := Ideal) (scan v12 h a0 n).1 (k0_pay3 (row h n)))) = 1#1 ↔ _
  rw [e2, e1, hT]
  simp only [EReal.coe_lt_coe_iff, EReal.coe_le_coe_iff]
  by_cases p : run a μ n < T <;> by_cases q : T ≤ run a μ (n + 1) <;> simp [p, q]

/-- One trip of the scan, the carried values read off. -/
theorem scan_succ (n : ℕ) : scan v12 h a0 (n + 1)
    = (k0_pay16 (F := Ideal) (scan v12 h a0 n).1 (k0_pay3 (row h n)),
       if crosses v12 h a0 n = 1#1 then Scalar.subi 4095#32 (BitVec.ofNat 32 n) else (scan v12 h a0 n).2.1,
       if crosses v12 h a0 n = 1#1 then k0_pay16 (F := Ideal) (scan v12 h a0 n).1 (k0_pay3 (row h n)) else (scan v12 h a0 n).2.2.1,
       if crosses v12 h a0 n = 1#1 then k0_pay3 (F := Ideal) (row h n) else (scan v12 h a0 n).2.2.2) := rfl

include ha hT hμ in
/-- Past the crossing the scan carries the bin, the mass down to and with it, and the bin's own mass. -/
theorem scan_found (hpos : ∀ t, 0 ≤ μ t) (t : ℕ) (ht : t < 4096) (h1 : run a μ t < T) (h2 : T ≤ run a μ (t + 1)) (n : ℕ)
    (htn : t < n) (hn : n ≤ 4096) :
    (scan v12 h a0 n).2.1 = BitVec.ofNat 32 (4095 - t) ∧ ((scan v12 h a0 n).2.2.1 : EReal) = (run a μ (t + 1) : EReal)
      ∧ ((scan v12 h a0 n).2.2.2 : EReal) = (μ t : EReal) := by
  induction n with
  | zero => omega
  | succ n ih =>
    have hc := crosses_iff v12 h a0 a T μ ha hT hμ n (by omega)
    rw [scan_succ]
    by_cases htn' : t = n
    · subst htn'
      have hc' := hc.mpr ⟨h1, h2⟩
      simp only [hc', if_true]
      refine ⟨?_, scan_run v12 h a0 a μ ha hμ (t + 1) (by omega), hμ t ht⟩
      show 4095#32 - BitVec.ofNat 32 t = _
      apply BitVec.eq_of_toNat_eq
      rw [BitVec.toNat_sub, BitVec.toNat_ofNat, BitVec.toNat_ofNat, BitVec.toNat_ofNat]
      omega
    · have hc' : crosses v12 h a0 n ≠ 1#1 := fun e => by
        have := run_mono a μ hpos (show t + 1 ≤ n by omega)
        linarith [(hc.mp e).1]
      simp only [hc', if_false]
      exact ih (by omega) (by omega)

end Carried

/-- The mass of the row's words whose top 24 bits, as an order key, are `t` or more. -/
def mass (w : ℕ → BitVec 32) (t : ℕ) : ℝ := ∑ i ∈ Finset.range 1000000, if t ≤ top (w i) then wexp (w i) else 0

/-- The whole row's mass. -/
def total (w : ℕ → BitVec 32) : ℝ := ∑ i ∈ Finset.range 1000000, wexp (w i)

theorem mass_zero (w : ℕ → BitVec 32) : mass w 0 = total w := Finset.sum_congr rfl fun i _ => if_pos (Nat.zero_le _)

theorem mass_top (w : ℕ → BitVec 32) : mass w (4096 * 4096) = 0 :=
  Finset.sum_eq_zero fun i _ => if_neg (by have := top_lt (w i); omega)

theorem mass_antitone (w : ℕ → BitVec 32) : Antitone (mass w) := fun a b hab => Finset.sum_le_sum fun i _ => by
  have := wexp_nonneg (w i)
  split_ifs <;> first | omega | linarith

/-- A row with a plain word among its words has some mass. -/
theorem total_pos (w : ℕ → BitVec 32) {i : ℕ} (hi : i < 1000000) (h : Plain (w i)) : 0 < total w :=
  Finset.sum_pos' (fun i _ => wexp_nonneg _) ⟨i, Finset.mem_range.2 hi, h.wexp_pos⟩

theorem bin1_toNat (u : BitVec 32) : (bin1 (F := Ideal) u).toNat = top u / 4096 := by
  rw [bin1_eq, BitVec.toNat_ushiftRight, Nat.shiftRight_eq_div_pow, top, Nat.div_div_eq_div_mul]

theorem bin2_toNat (u : BitVec 32) : (bin2 (F := Ideal) u).toNat = top u % 4096 := by
  rw [bin2_eq, BitVec.toNat_and, BitVec.toNat_ushiftRight, Nat.shiftRight_eq_div_pow, top]
  exact Nat.and_two_pow_sub_one_eq_mod _ 12

theorem pay19_eq (x y : Ideal .f32) : (k0_pay19 (F := Ideal) x y : EReal) = (x : EReal) - (y : EReal) := rfl

section Row

variable (w : ℕ → BitVec 32) (hw : ∀ i < 1000000, Ok (w i)) (hz : 0 < total w)

/-- One bin of a histogram: its sixteen lanes, added up. -/
theorem row_mass (h : Vec Ideal S65536 .f32) (q : ℕ → ℕ → Prop) [∀ b, DecidablePred (q b)]
    (hh : ∀ b l (hb : b < 4096) (hl : l < 16), (h (ix (16 * b + l) (by omega)) : EReal) = (laneSum w (q b) l 62500 : EReal))
    (t : ℕ) (ht : t < 4096) :
    (k0_pay3 (F := Ideal) (row h t) : EReal)
      = ((∑ i ∈ Finset.range 1000000, if q (4095 - t) i then wexp (w i) else 0 : ℝ) : EReal) := by
  rw [pay3_eq _ (fun l => laneSum w (q (4095 - t)) l 62500), sum_lanes]
  intro l hl
  rw [← hh (4095 - t) l (by omega) hl]
  show h _ = h _
  congr 1
  refine idx1_ext ?_
  rw [ix_val, ix_val, ix_val]
  omega

include hw in
/-- The target both scans compare against. -/
theorem target_eq : (k0_pay15 (F := Ideal) (zsum (F := Ideal) w 62500) (k0_pay14 (zsum (F := Ideal) w 62500)) : EReal)
    = ((share * total w : ℝ) : EReal) := by
  rw [pay15_eq, pay3_eq _ (fun l => laneSum w (fun _ => True) l 62500) (fun l hl => zsum_apply w hw l hl 62500 le_rfl),
    sum_lanes, ofBits_share, EReal.coe_mul, total]
  simp

/-- The mass of the `t`-th bin from the top, where bins hold `s` keys each and the keys below `s * hi` fill them. -/
def slab (hi s t : ℕ) : ℝ := ∑ i ∈ Finset.range 1000000,
  if (hi - 1 - t) * s ≤ top (w i) ∧ top (w i) < (hi - t) * s then wexp (w i) else 0

theorem slab_nonneg (hi s t : ℕ) : 0 ≤ slab w hi s t :=
  Finset.sum_nonneg fun i _ => by have := wexp_nonneg (w i); split_ifs <;> simp [this]

/-- Bin by bin from the top, the masses of a run of bins add up to the mass above a threshold. -/
theorem run_mass (hi : ℕ) (h4096 : 4096 ≤ hi) (s : ℕ) (n : ℕ) (hn : n ≤ 4096) :
    run (mass w (s * hi)) (slab w hi s) n = mass w ((hi - n) * s) := by
  induction n with
  | zero => simp [run, mul_comm]
  | succ n ih =>
    rw [run_succ, ih (by omega)]
    unfold mass slab
    rw [← Finset.sum_add_distrib]
    refine Finset.sum_congr rfl fun i _ => ?_
    rw [show hi - (n + 1) = hi - 1 - n by omega]
    have hle : (hi - 1 - n) * s ≤ (hi - n) * s := Nat.mul_le_mul_right _ (by omega)
    split_ifs <;> first | omega | simp

/-- The threshold the scans name: the least top-24-bit key whose words and those above hold the share of the mass. -/
def IsCut (w : ℕ → BitVec 32) (T : ℕ) : Prop :=
  T < 4096 * 4096 ∧ mass w (T + 1) < share * total w ∧ share * total w ≤ mass w T

include hw hz in
/-- The first scan's bin, and the mass above it. -/
theorem scanA_eq : ∃ c < 4096, (scanA (F := Ideal) w).2.1 = BitVec.ofNat 32 c
    ∧ ((above (F := Ideal) w : Ideal .f32) : EReal) = (mass w ((c + 1) * 4096) : EReal)
    ∧ mass w ((c + 1) * 4096) < share * total w ∧ share * total w ≤ mass w (c * 4096) := by
  have hμ : ∀ t < 4096, (k0_pay3 (F := Ideal) (row (hist1 (F := Ideal) w 62500) t) : EReal) = (slab w 4096 4096 t : EReal) := fun t ht => by
    rw [row_mass w _ (fun b i => (bin1 (F := Ideal) (w i)).toNat = b) (fun b l hb hl => hist1_apply w hw b l hb hl 62500 le_rfl) t ht]
    unfold slab
    refine congrArg (fun x : ℝ => (x : EReal)) (Finset.sum_congr rfl fun i _ => if_congr ?_ rfl rfl)
    rw [bin1_toNat]
    omega
  have hrun := run_mass w 4096 le_rfl 4096
  rw [mass_top] at hrun
  have hm := mass_zero w
  obtain ⟨t, ht, h1, h2⟩ := exists_crossing 0 (share * total w) (slab w 4096 4096) 4096 (mul_pos share_pos hz) (by
    rw [hrun 4096 le_rfl, Nat.sub_self, Nat.zero_mul, hm]
    nlinarith [share_lt_one, hz])
  have hf := scan_found (zsum (F := Ideal) w 62500) (hist1 (F := Ideal) w 62500) (zF, 0#32, zF, zF) 0 (share * total w) (slab w 4096 4096)
    zero_eq (target_eq w hw) hμ (slab_nonneg w _ _)
    t ht h1 h2 4096 ht le_rfl
  have e1 := run_succ 0 (slab w 4096 4096) t
  rw [hrun t ht.le] at h1
  rw [hrun (t + 1) ht] at h2
  refine ⟨4095 - t, by omega, hf.1, ?_, ?_, ?_⟩
  · unfold above scanA
    rw [pay19_eq, hf.2.1, hf.2.2, e1, hrun t ht.le, ← EReal.coe_sub, add_sub_cancel_right, show 4095 - t + 1 = 4096 - t by omega]
  · rwa [show 4095 - t + 1 = 4096 - t by omega]
  · rwa [show 4095 - t = 4096 - (t + 1) by omega]

include hw hz in
/-- What the tile writes out: the threshold, shifted into a key, and the mass kept. -/
theorem out_eq : ∃ T, IsCut w T ∧ outKey (F := Ideal) w = BitVec.ofNat 32 (T * 256)
    ∧ ((outSum (F := Ideal) w : Ideal .f32) : EReal) = (mass w T : EReal) := by
  obtain ⟨c, hc, e, ha, hlt, hle⟩ := scanA_eq w hw hz
  have hμ : ∀ t < 4096, (k0_pay3 (F := Ideal) (row (hist2 (F := Ideal) w (scanA (F := Ideal) w).2.1 62500) t) : EReal)
      = (slab w ((c + 1) * 4096) 1 t : EReal) := fun t ht => by
    rw [row_mass w _ (fun b i => bin1 (F := Ideal) (w i) = (scanA (F := Ideal) w).2.1 ∧ (bin2 (F := Ideal) (w i)).toNat = b)
      (fun b l hb hl => hist2_apply w hw _ b l hb hl 62500 le_rfl) t ht]
    unfold slab
    refine congrArg (fun x : ℝ => (x : EReal)) (Finset.sum_congr rfl fun i _ => if_congr ?_ rfl rfl)
    rw [e, ← BitVec.toNat_inj, bin1_toNat, bin2_toNat, BitVec.toNat_ofNat, Nat.mod_eq_of_lt (by omega)]
    omega
  have hrun := run_mass w ((c + 1) * 4096) (by omega) 1
  rw [one_mul] at hrun
  obtain ⟨t, ht, h1, h2⟩ := exists_crossing (mass w ((c + 1) * 4096)) (share * total w) (slab w ((c + 1) * 4096) 1) 4096 hlt (by
    rw [hrun 4096 le_rfl, show ((c + 1) * 4096 - 4096) * 1 = c * 4096 by omega]
    exact hle)
  have hf := scan_found (zsum (F := Ideal) w 62500) (hist2 (F := Ideal) w (scanA (F := Ideal) w).2.1 62500)
    (above w, 0#32, above w, zF) _ (share * total w) (slab w ((c + 1) * 4096) 1) ha (target_eq w hw) hμ
    (slab_nonneg w _ _)
    t ht h1 h2 4096 ht le_rfl
  rw [hrun t ht.le] at h1
  rw [hrun (t + 1) ht] at h2 hf
  have eT : ((c + 1) * 4096 - (t + 1)) * 1 = c * 4096 + (4095 - t) := by omega
  have eT' : ((c + 1) * 4096 - t) * 1 = c * 4096 + (4095 - t) + 1 := by omega
  rw [eT] at h2 hf
  rw [eT'] at h1
  refine ⟨c * 4096 + (4095 - t), ⟨by omega, h1, h2⟩, ?_, hf.2.1⟩
  have eB : (scanB (F := Ideal) w).2.1 = BitVec.ofNat 32 (4095 - t) := hf.1
  show IntOp.shli .scalar (IntOp.shli .scalar (scanA (F := Ideal) w).2.1 12#32 ||| (scanB (F := Ideal) w).2.1) 8#32 = _
  rw [e, eB, shls_lit _ 12 (by decide), shls_lit _ 8 (by decide)]
  apply BitVec.eq_of_toNat_eq
  have e1 : (BitVec.ofNat 32 c <<< 12 : BitVec 32).toNat = c <<< 12 := by
    rw [BitVec.toNat_shiftLeft, BitVec.toNat_ofNat, Nat.mod_eq_of_lt (show c < 2 ^ 32 by omega), Nat.shiftLeft_eq]
    omega
  have e2 : (BitVec.ofNat 32 (4095 - t) : BitVec 32).toNat = 4095 - t := by rw [BitVec.toNat_ofNat]; omega
  rw [BitVec.toNat_shiftLeft, BitVec.toNat_or, e1, e2, ← Nat.shiftLeft_add_eq_or_of_lt (show 4095 - t < 2 ^ 12 by omega),
    BitVec.toNat_ofNat, Nat.shiftLeft_eq, Nat.shiftLeft_eq]

end Row

end Cert.Proof

end
-- ==== Proof.Ends.lean ====
/- What the kernel writes, read at a row and a column: each word's entry under its row's threshold and kept mass, and over
   the extended reals the value less the logarithm of the kept mass at the kept words. -/
module

public import proofs.«01_k».proof.Proof.Cells
public import proofs.«01_k».proof.Proof.Scan
public import Idealize.ShloMosaic.Lib.KernelVsHost
public import Idealize.ShloMosaic.Lib.Routing.Ops

@[expose] public section

noncomputable section

namespace Cert.Proof

open Cert.KernelIdeal Cert.KernelIdeal.Gen
open Idealize.ShloMosaic hiding ix1 ix2 ix3 eq_ix3
open Idealize.ShloMosaic.TcCoe
open Idealize.ShloMosaic.ValueIdx Idealize.ShloMosaic.Routing
open Idealize.SL Idealize.SL.Sem

/-! ## Reshapes and the pad, at an entry -/

theorem cast32 {α : Type} {a b c n : ℕ} (x : (shape3 a b c).Idx → α) (h : (shape3 a b c).ShapeCasts (shape2 a n)) (hn : n = b * c)
    (i : Fin a) (j : Fin b) (l : Fin c) (q : Fin n) (hq : q.val = j.val * c + l.val) : shapeCast (shape2 a n) x h (ix2 i q) = x (ix3 i j l) := by
  refine shapeCast_apply x h _ _ ?_
  rw [Shape.rowMajor_val_two, Shape.rowMajor_val_three]
  show (i.val * b + j.val) * c + l.val = i.val * n + q.val
  rw [hq, hn]; ring

theorem cast23 {α : Type} {a b c n : ℕ} (x : (shape2 a n).Idx → α) (h : (shape2 a n).ShapeCasts (shape3 a b c)) (hn : n = b * c)
    (i : Fin a) (j : Fin b) (l : Fin c) (q : Fin n) (hq : q.val = j.val * c + l.val) : shapeCast (shape3 a b c) x h (ix3 i j l) = x (ix2 i q) := by
  refine shapeCast_apply x h _ _ ?_
  rw [Shape.rowMajor_val_two, Shape.rowMajor_val_three]
  show i.val * n + q.val = (i.val * b + j.val) * c + l.val
  rw [hq, hn]; ring

theorem pad_row {α : Type} {a n e N : ℕ} {u : Shape} (x : (shape2 a n).Idx → α) (v : u.Idx → α) (h : (shape2 a n).Pads ![0, 0] ![0, e] ![0, 0] (shape2 a N))
    (hu : 0 < u.numel) (i : Fin a) (t : Fin n) (q : Fin N) (hq : q.val = t.val) :
    pad (shape2 a N) ![0, 0] ![0, e] ![0, 0] x v h hu (ix2 i q) = x (ix2 i t) :=
  pad_apply_of_inside _ _ _ x v h hu _ _ fun d => by
    match d with
    | ⟨0, _⟩ => show i.val = 0 + i.val * (0 + 1); omega
    | ⟨1, _⟩ => show q.val = 0 + t.val * (0 + 1); omega

theorem cut_row {α : Type} {a n N : ℕ} (x : (shape2 a N).Idx → α) (h : (shape2 a N).Slices ![0, 0] (shape2 a n)) (i : Fin a) (t : Fin n) (q : Fin N)
    (hq : q.val = t.val) : extractStridedSlice (shape2 a n) ![0, 0] x h (ix2 i t) = x (ix2 i q) :=
  extractStridedSlice_apply _ x h _ _ fun d => by
    match d with
    | ⟨0, _⟩ => show i.val = 0 + i.val; omega
    | ⟨1, _⟩ => show q.val = 0 + t.val; omega

/-! ## The arrays the TensorCore call reads, and the result -/

section
variable {F : FTy → Type} [FloatOps F] (m : (ℓ : Loc nD τ sig) → Buf (Elt F) ℓ) (d : Dev nD)

theorem V3_tiles : V3 m d (dev main_v5) = shapeCast S32x7816x128
    (pad S32x1000448 ![0, 0] ![0, 448] ![0, 0] (arg m d) (constantI S_ 32 4286578688#32) pads_S32x1000000_S32x1000448_000_04480 h_S_)
    shapeCasts_S32x1000448_S32x7816x128 := by
  unfold V3
  refine (StableHlo.reshape_result main_v4 main_v5 rfl shapeCasts_S32x1000448_S32x7816x128 _ _ _).trans ?_
  have e : ∀ W : Valuation τ sig (Elt F), opPad.result W (dev main_v4)
      = pad S32x1000448 ![0, 0] ![0, 448] ![0, 0] (W (dev main_arg0)) (W (dev main_c)) pads_S32x1000000_S32x1000448_000_04480 h_S_ :=
    fun W => StableHlo.binary_result main_arg0 main_c main_v4 _ _ _ _ W
  have ec : ∀ W : Valuation τ sig (Elt F), opFill.result W (dev main_c) = constantI S_ 32 4286578688#32 :=
    fun W => StableHlo.nullary_result main_c _ _ W
  rw [e, ec, keep w_fill _ (by decide), keep w_sums _ (by decide), keep w_keys _ (by decide), V2_arg]
  rfl

theorem V3_keys : V3 m d (dev main_v2) = shapeCast S32x1x16 (keys (F := F) (flat (arg m d))) shapeCasts_S512_S32x1x16 := by
  unfold V3
  rw [keep w_tiles _ (by decide), keep w_pad _ (by decide), keep w_fill _ (by decide), keep w_sums _ (by decide)]
  refine (StableHlo.reshape_result main_v1_0 main_v2 rfl shapeCasts_S512_S32x1x16 _ _ _).trans ?_
  rw [V2_keys]
  rfl

theorem V3_sums : V3 m d (dev main_v3) = shapeCast S32x1x16 (sums (F := F) (flat (arg m d))) shapeCasts_S512_S32x1x16 := by
  unfold V3
  rw [keep w_tiles _ (by decide), keep w_pad _ (by decide), keep w_fill _ (by decide)]
  refine (StableHlo.reshape_result main_v1_1 main_v3 rfl shapeCasts_S512_S32x1x16 _ _ _).trans ?_
  rw [keep w_keys _ (by decide), V2_sums]
  rfl

theorem V5_out : V5 m d (dev main_v8) = extractStridedSlice S32x1000000 ![0, 0]
    (shapeCast S32x1000448 (cells (F := F) (V3 m d (dev main_v5)) (V3 m d (dev main_v2)) (V3 m d (dev main_v3))) shapeCasts_S32x7816x128_S32x1000448)
    slices_S32x1000448_S32x1000000_0_0 := by
  unfold V5
  have e : ∀ W : Valuation τ sig (Elt F), opCut.result W (dev main_v8)
      = extractStridedSlice S32x1000000 ![0, 0] (W (dev main_v7)) slices_S32x1000448_S32x1000000_0_0 :=
    fun W => StableHlo.unary_result main_v7 main_v8 _ _ _ W
  have e' : ∀ W : Valuation τ sig (Elt F), opRows.result W (dev main_v7)
      = shapeCast S32x1000448 (W (dev main_v6)) shapeCasts_S32x7816x128_S32x1000448 :=
    fun W => StableHlo.reshape_result main_v6 main_v7 rfl shapeCasts_S32x7816x128_S32x1000448 _ _ W
  rw [e, e']
  unfold V4
  rw [Function.update_self, finArr_eq]

theorem words_flat (w : S32x1000000.Idx → BitVec 32) (r : Fin 32) (k : Fin 1000000) : words (flat w) r.val k.val = w (ix2 r k) := by
  have hb : 1000000 * r.val + k.val < 32000000 := by omega
  rw [words_of (flat w) (ix1 ⟨1000000 * r.val + k.val, hb⟩) rfl]
  unfold flat
  exact cast21 w _ r k _ (by show 1000000 * r.val + k.val = r.val * 1000000 + k.val; omega)

/-- The kernel's result at a row and a column. -/
theorem V5_apply (r : Fin 32) (t : Fin 1000000) : V5 m d (dev main_v8) (ix2 r t)
    = cell (F := F) (arg m d (ix2 r t)) (outKey (F := F) (words (flat (arg m d)) r.val)) (outSum (F := F) (words (flat (arg m d)) r.val)) := by
  have hq : t.val < 1000448 := by omega
  have hj : t.val / 128 < 7816 := by omega
  have hl : t.val % 128 < 128 := by omega
  have hd : t.val = t.val / 128 * 128 + t.val % 128 := by omega
  have hp : r.val * 16 < 512 := by omega
  rw [V5_out, V3_tiles, V3_keys, V3_sums]
  rw [cut_row _ slices_S32x1000448_S32x1000000_0_0 r t ⟨t.val, hq⟩ rfl]
  rw [cast32 _ shapeCasts_S32x7816x128_S32x1000448 rfl r ⟨_, hj⟩ ⟨_, hl⟩ ⟨t.val, hq⟩ hd]
  unfold cells
  rw [cast23 _ shapeCasts_S32x1000448_S32x7816x128 rfl r ⟨_, hj⟩ ⟨_, hl⟩ ⟨t.val, hq⟩ hd]
  rw [pad_row _ _ pads_S32x1000000_S32x1000448_000_04480 h_S_ r t ⟨t.val, hq⟩ rfl]
  have ek : shapeCast S32x1x16 (keys (F := F) (flat (arg m d))) shapeCasts_S512_S32x1x16 (ix3 r 0 0) = outKey (F := F) (words (flat (arg m d)) r.val) := by
    rw [cast13 _ shapeCasts_S512_S32x1x16 r 0 0 ⟨r.val * 16, hp⟩ (by show r.val * 16 = (r.val * 1 + 0) * 16 + 0; omega)]
    show outKey (F := F) (words (flat (arg m d)) (r.val * 16 / 16)) = _
    rw [Nat.mul_div_cancel _ (by decide)]
  have es : shapeCast S32x1x16 (sums (F := F) (flat (arg m d))) shapeCasts_S512_S32x1x16 (ix3 r 0 0) = outSum (F := F) (words (flat (arg m d)) r.val) := by
    rw [cast13 _ shapeCasts_S512_S32x1x16 r 0 0 ⟨r.val * 16, hp⟩ (by show r.val * 16 = (r.val * 1 + 0) * 16 + 0; omega)]
    show outSum (F := F) (words (flat (arg m d)) (r.val * 16 / 16)) = _
    rw [Nat.mul_div_cancel _ (by decide)]
  exact congrArg₂ (cell (F := F) _) ek es

end

/-! ## Over the extended reals -/

theorem uge_eq (a b : BitVec 32) : IntOp.cmpi .uge a b = BitVec.ofBool (decide (b.toNat ≤ a.toNat)) := rfl

/-- A plain word's entry: its value less the logarithm of a positive mass where it ranks at `T` or above. -/
theorem cell_eq {u : BitVec 32} (hu : Plain u) {T : ℕ} (hT : T < 4096 * 4096) {s : Ideal .f32} {x : ℝ} (hs : (s : EReal) = (x : EReal)) (hx : 0 < x) :
    (cell (F := Ideal) u (BitVec.ofNat 32 (T * 256)) s : EReal) = if T ≤ top u then ((val u - Real.log x : ℝ) : EReal) else ⊥ := by
  have hc : (BitVec.ofNat 32 (T * 256)).toNat ≤ (key (F := Ideal) u).toNat ↔ T ≤ top u := by
    rw [BitVec.toNat_ofNat]; unfold top; omega
  have hsel : (cell (F := Ideal) u (BitVec.ofNat 32 (T * 256)) s : EReal)
      = if (BitVec.ofNat 32 (T * 256)).toNat ≤ (key (F := Ideal) u).toNat then Ideal.ofBits .f32 u - Ideal.log (s : EReal) else Ideal.ofBits .f32 0xFF800000#32 := by
    by_cases h : (BitVec.ofNat 32 (T * 256)).toNat ≤ (key (F := Ideal) u).toNat
    · rw [if_pos h]
      unfold cell
      rw [uge_eq, decide_eq_true h]
      rfl
    · rw [if_neg h]
      unfold cell
      rw [uge_eq, decide_eq_false h]
      rfl
  rw [hsel, hs, hu.ofBits, ofBits_bot, Ideal.log_coe, if_neg hx.not_ge]
  by_cases h : T ≤ top u
  · rw [if_pos h, if_pos (hc.mpr h), EReal.coe_sub]
  · rw [if_neg h, if_neg fun h' => h (hc.mp h')]

/-- At a word that stands for the bottom the pointwise call writes the bottom, whatever the threshold and the mass. -/
theorem cell_bot {u : BitVec 32} (hu : Ideal.ofBits .f32 u = ⊥) (k : BitVec 32) (s : Ideal .f32) : (cell (F := Ideal) u k s : EReal) = ⊥ := by
  by_cases h : k.toNat ≤ (key (F := Ideal) u).toNat
  · unfold cell
    rw [uge_eq, decide_eq_true h]
    show Ideal.ofBits .f32 u - Ideal.log (s : EReal) = ⊥
    rw [hu, EReal.bot_sub]
  · unfold cell
    rw [uge_eq, decide_eq_false h]
    exact ofBits_bot

end Cert.Proof

end
-- ==== Proof.Meets.lean ====
/- What the precondition says of each word, and what it takes of shapes. -/
module

public import proofs.«01_k».proof.Pre_plain_words
public import proofs.«01_k».proof.Proof.Words
public import proofs.«01_k».proof.Proof.Gen.ReferenceIdeal
public import Idealize.ShloMosaic.Lib.ReduceAll
public import Idealize.ShloMosaic.Lib.ValueIdx

@[expose] public section

noncomputable section

namespace Cert.Proof

open Idealize.ShloMosaic

theorem facts_pre : Cert.Pre_plain_words.Facts where
  bcast_S_S32x1000000 := Cert.ReferenceIdeal.Facts₀.bcast_S_S32x1000000
  reducesTo_S32x1000000_S_d0_1 := by decide
  h_S_ := by decide

/-- The two tests of a word: it is not plus infinity's, and its top twenty-four bits are not those of a negative zero. -/
def isOk (u : BitVec 32) : BitVec 1 :=
  IntOp.andi (~~~(IntOp.cmpi .eq u 2139095040#32)) (~~~(IntOp.cmpi .eq (IntOp.andi u 4294967040#32) 2147483648#32))

theorem ok_of_test {u : BitVec 32} (h : isOk u = 1#1) : Ok u := by
  unfold isOk IntOp.andi IntOp.cmpi at h
  constructor
  · intro e
    rw [e] at h
    revert h; simp
  · intro e
    rw [e] at h
    revert h; simp

/-- The precondition, word by word. -/
theorem ok_of_pre [Cert.Pre_plain_words.Facts] (w : IVec Cert.Pre_plain_words.S32x1000000 32)
    (h : Cert.Pre_plain_words.fn (F := Ideal) w = fun _ => 1#1) (i : Cert.Pre_plain_words.S32x1000000.Idx) : Ok (w i) := by
  haveI : Subsingleton Cert.Pre_plain_words.S_.Idx := ⟨fun a b => funext fun d => d.elim0⟩
  unfold Cert.Pre_plain_words.fn at h
  exact ok_of_test (Host.reduce_andi_all _ _ _ _ ValueIdx.ix0 (congrFun h ValueIdx.ix0) i)

end Cert.Proof

end
-- ==== Proof.Keep.lean ====
/- The reference's operations, read: which elements a nucleus keeps when it is taken over a row sorted by rank, a row's
   running sums, and a row's sum, greatest and least element. -/
module

public import proofs.«01_k».proof.Proof.Gen.ReferenceIdeal
public import Idealize.ShloMosaic.Lib.SortFacts
public import Idealize.ShloMosaic.Lib.Routing.Ops
public import Idealize.ShloMosaic.Lib.IdealHost
public import Idealize.ShloMosaic.PureOps.Ideal.Laws

@[expose] public section

noncomputable section

namespace Cert.Proof

open Idealize.ShloMosaic Idealize.ShloMosaic.ValueIdx Idealize.ShloMosaic.Routing

/-- Sorted by falling rank, a position is kept while the mass before it is below the bound; an element ranks no lower than
    some kept position exactly when the mass ranked strictly above the element is below the bound. -/
theorem kept_iff {n : ℕ} {α : Type} [LinearOrder α] (tp : Fin n → α) (P : Fin n → ℝ) (hP : ∀ i, 0 ≤ P i) (σ : Fin n → Fin n)
    (hinj : Function.Injective σ) (hsurj : Function.Surjective σ) (hσ : ∀ a b, a < b → tp (σ b) ≤ tp (σ a)) (X : ℝ) (i : Fin n) :
    (∃ k, ∑ l ∈ Finset.univ.filter (· < k), P (σ l) < X ∧ tp (σ k) ≤ tp i)
      ↔ ∑ j ∈ Finset.univ.filter (fun j => tp i < tp j), P j < X := by
  have himg : ∀ k, ∑ l ∈ Finset.univ.filter (· < k), P (σ l) = ∑ j ∈ (Finset.univ.filter (· < k)).image σ, P j := fun k =>
    (Finset.sum_image fun a _ b _ h => hinj h).symm
  constructor
  · rintro ⟨k, hk, hki⟩
    refine lt_of_le_of_lt ?_ hk
    rw [himg]
    refine Finset.sum_le_sum_of_subset_of_nonneg (fun j hj => ?_) fun j _ _ => hP j
    obtain ⟨l, rfl⟩ := hsurj j
    have hlt := (Finset.mem_filter.1 hj).2
    refine Finset.mem_image.2 ⟨l, Finset.mem_filter.2 ⟨Finset.mem_univ _, ?_⟩, rfl⟩
    by_contra hle
    rcases (not_lt.1 hle).eq_or_lt with e | h
    · subst e; exact absurd hki (not_le.2 hlt)
    · exact absurd ((hσ k l h).trans hki) (not_le.2 hlt)
  · intro h
    classical
    have hne : (Finset.univ.filter fun k => tp (σ k) ≤ tp i).Nonempty := by
      obtain ⟨k, hk⟩ := hsurj i
      exact ⟨k, Finset.mem_filter.2 ⟨Finset.mem_univ _, by rw [hk]⟩⟩
    refine ⟨Finset.min' _ hne, lt_of_le_of_lt ?_ h, (Finset.mem_filter.1 (Finset.min'_mem _ hne)).2⟩
    rw [himg]
    refine Finset.sum_le_sum_of_subset_of_nonneg (fun j hj => ?_) fun j _ _ => hP j
    obtain ⟨l, hl, rfl⟩ := Finset.mem_image.1 hj
    refine Finset.mem_filter.2 ⟨Finset.mem_univ _, ?_⟩
    by_contra hle
    have h1 := (Finset.mem_filter.1 hl).2
    have h2 := Finset.min'_le (Finset.univ.filter fun k => tp (σ k) ≤ tp i) l (Finset.mem_filter.2 ⟨Finset.mem_univ _, not_lt.1 hle⟩)
    exact absurd h1 (not_lt.2 h2)

/-- A left fold of additions is the start and the sum. -/
theorem foldl_plus {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A padded window's sum is a prefix's. -/
theorem window_sum (f : ℕ → EReal) (m t : ℕ) (ht : t ≤ m) :
    ∑ n ∈ Finset.range (m + 1), (if m ≤ t + n then f (t + n - m) else 0) = ∑ l ∈ Finset.range (t + 1), f l := by
  obtain ⟨d, rfl⟩ : ∃ d, m = t + d := ⟨m - t, by omega⟩
  rw [show t + d + 1 = d + (t + 1) by omega, Finset.sum_range_add, Finset.sum_eq_zero, zero_add]
  · refine Finset.sum_congr rfl fun l _ => ?_
    rw [if_pos (by omega)]
    congr 1
    omega
  · intro n hn
    have := Finset.mem_range.1 hn
    exact if_neg (by omega)

/-- A prefix of the naturals, summed, is the sum over the positions below. -/
theorem prefix_sum {N : ℕ} (f : ℕ → EReal) (g : Fin N → EReal) (hfg : ∀ l : Fin N, f l.val = g l) (t : ℕ) (ht : t ≤ N) :
    ∑ l ∈ Finset.range t, f l = ∑ l ∈ Finset.univ.filter (fun l : Fin N => l.val < t), g l := by
  rw [Finset.sum_filter]
  obtain ⟨d, rfl⟩ : ∃ d, N = t + d := ⟨N - t, by omega⟩
  have h := Fin.sum_univ_eq_sum_range (fun l => if l < t then f l else 0) (t + d)
  rw [show (∑ l : Fin (t + d), if l.val < t then g l else 0) = ∑ l : Fin (t + d), if l.val < t then f l.val else 0 from
    Finset.sum_congr rfl fun l _ => by rw [hfg], h, Finset.sum_range_add]
  rw [Finset.sum_eq_zero (s := Finset.range d) (fun n _ => if_neg (by omega)), add_zero]
  exact Finset.sum_congr rfl fun l hl => (if_pos (Finset.mem_range.1 hl)).symm

/-- A row's running sum, as the window sum over the row padded low: the entries up to and with the position. -/
theorem cumsum_apply {R N m : ℕ} (hN : m + 1 = N) (x : (shape2 R N).Idx → EReal)
    (h : (shape2 R N).ReduceWindows (![1, N] : Fin 2 → ℕ) ![1, 1] ![0, m] ![0, 0] (shape2 R N))
    (r : Fin R) (t : Fin N) :
    Ideal.hostReduceWindowAdd ![1, N] ![1, 1] ![0, m] ![0, 0] h x 0 (ix2 r t)
      = ∑ l ∈ Finset.univ.filter (fun l : Fin N => l.val < t.val + 1), x (ix2 r l) := by
  subst hN
  have ht := t.isLt
  let f : ℕ → EReal := fun l => if hl : l < m + 1 then x (ix2 r ⟨l, hl⟩) else 0
  rw [← prefix_sum f (fun l => x (ix2 r l)) (fun l => dif_pos l.isLt) (t.val + 1) ht, ← window_sum f m t.val (by omega)]
  unfold Ideal.hostReduceWindowAdd Host.reduceWindow
  refine (foldl_plus _ _ _).trans ?_
  rw [zero_add, ← Fin.sum_univ_def]
  refine (Finset.sum_congr rfl fun n _ => ?_).trans
    ((Fin.sum_univ_eq_sum_range (fun n => if m ≤ t.val + n then f (t.val + n - m) else 0) (shape2 1 (m + 1)).numel).trans (by rw [numel2]))
  have hw0 : ((shape2 1 (m + 1)).rowMajor.symm n 0).val = 0 := by rw [symm2]; rfl
  have hw : ((shape2 1 (m + 1)).rowMajor.symm n 1).val = n.val := by rw [symm2]; rfl
  have hn : n.val < m + 1 := (n.cast (numel2 _)).isLt
  have hr := r.isLt
  split
  · next hin =>
    have h1 := hin 1
    change m ≤ t.val * 1 + ((shape2 1 (m + 1)).rowMajor.symm n 1).val
      ∧ t.val * 1 + ((shape2 1 (m + 1)).rowMajor.symm n 1).val - m < m + 1 at h1
    rw [hw] at h1
    rw [if_pos (by omega)]
    show _ = dite _ _ _
    rw [dif_pos (by omega)]
    refine congrArg x (funext fun a => Fin.ext ?_)
    match a with
    | ⟨0, _⟩ =>
      show r.val * 1 + ((shape2 1 (m + 1)).rowMajor.symm n 0).val - 0 = r.val
      rw [hw0]; omega
    | ⟨1, _⟩ =>
      show t.val * 1 + ((shape2 1 (m + 1)).rowMajor.symm n 1).val - m = t.val + n.val - m
      rw [hw, Nat.mul_one]
  · next hin =>
    rw [if_neg fun hle => hin fun a => by
      match a with
      | ⟨0, _⟩ =>
        show 0 ≤ r.val * 1 + ((shape2 1 (m + 1)).rowMajor.symm n 0).val ∧ r.val * 1 + ((shape2 1 (m + 1)).rowMajor.symm n 0).val - 0 < R
        rw [hw0]; omega
      | ⟨1, _⟩ =>
        show m ≤ t.val * 1 + ((shape2 1 (m + 1)).rowMajor.symm n 1).val ∧ t.val * 1 + ((shape2 1 (m + 1)).rowMajor.symm n 1).val - m < m + 1
        rw [hw]; omega]

/-- A row shifted right by one place behind a first column. -/
theorem shift_apply {α : Type} {R N m : ℕ} (hN : m + 1 = N) (x : (shape2 R N).Idx → α) (y : (shape2 R 1).Idx → α)
    (hs : (shape2 R N).Slices ![0, 0] (shape2 R m)) (hc : Shape.Concatenates [shape2 R 1, shape2 R m] (shape2 R N) 1)
    (r : Fin R) (t : Fin N) :
    concatenate (shape2 R N) 1 [⟨shape2 R 1, y⟩, ⟨shape2 R m, extractStridedSlice (shape2 R m) ![0, 0] x hs⟩] hc (ix2 r t)
      = if t.val = 0 then y (ix2 r (0 : Fin 1)) else x (ix2 r ⟨t.val - 1, by have := t.isLt; omega⟩) := by
  have ht := t.isLt
  by_cases h0 : t.val = 0
  · rw [if_pos h0]
    exact concatenate_pair_apply_left (t := shape2 R N) (s₁ := shape2 R 1) (s₂ := shape2 R m) 1 _ _ hc (ix2 r t) rfl (ix2 r (0 : Fin 1))
      (fun b => by match b with | ⟨0, _⟩ => rfl | ⟨1, _⟩ => exact h0.symm)
  · rw [if_neg h0]
    refine (concatenate_pair_apply_right (t := shape2 R N) (s₁ := shape2 R 1) (s₂ := shape2 R m) 1 _ _ hc (ix2 r t) rfl rfl
      (ix2 r (⟨t.val - 1, by omega⟩ : Fin m)) (fun b hb => by match b with | ⟨0, _⟩ => rfl | ⟨1, _⟩ => exact absurd rfl hb)
      (show t.val - 1 + 1 = t.val by omega)).trans ?_
    exact extractStridedSlice_apply ![0, 0] x hs (ix2 r (⟨t.val - 1, by omega⟩ : Fin m)) (ix2 r (⟨t.val - 1, by omega⟩ : Fin N))
      (fun a => by match a with | ⟨0, _⟩ => exact (Nat.zero_add _).symm | ⟨1, _⟩ => exact (Nat.zero_add _).symm)

variable {R N : ℕ}

theorem along_ix2 (r : Fin R) (t k : Fin N) : Shape.Idx.along (s := shape2 R N) (ix2 r t) 1 k = ix2 r k := by
  funext a
  match a with
  | ⟨0, _⟩ => rfl
  | ⟨1, _⟩ => rfl

/-- A sort of two arrays along their rows reads both through each row's one permutation. -/
theorem sort2_row {α β : Type} (cmp : α × β → α × β → BitVec 1) (x : (shape2 R N).Idx → α) (y : (shape2 R N).Idx → β)
    (r : Fin R) (t : Fin N) :
    (Host.sort2 (shape2 R N) 1 cmp x y).1 (ix2 r t)
        = x (ix2 r (sortedFrom (fun k k' => cmp (x (ix2 r k), y (ix2 r k)) (x (ix2 r k'), y (ix2 r k')) == 1#1) t))
      ∧ (Host.sort2 (shape2 R N) 1 cmp x y).2 (ix2 r t)
        = y (ix2 r (sortedFrom (fun k k' => cmp (x (ix2 r k), y (ix2 r k)) (x (ix2 r k'), y (ix2 r k')) == 1#1) t)) := by
  have e : ∀ k : Fin N, Shape.Idx.along (s := shape2 R N) (ix2 r t) ⟨1, Nat.one_lt_two⟩ k = ix2 r k := along_ix2 r t
  have eR : (fun k k' : Fin N => cmp (x (Shape.Idx.along (s := shape2 R N) (ix2 r t) ⟨1, Nat.one_lt_two⟩ k),
        y (Shape.Idx.along (s := shape2 R N) (ix2 r t) ⟨1, Nat.one_lt_two⟩ k))
        (x (Shape.Idx.along (s := shape2 R N) (ix2 r t) ⟨1, Nat.one_lt_two⟩ k'),
        y (Shape.Idx.along (s := shape2 R N) (ix2 r t) ⟨1, Nat.one_lt_two⟩ k')) == 1#1)
      = fun k k' => cmp (x (ix2 r k), y (ix2 r k)) (x (ix2 r k'), y (ix2 r k')) == 1#1 := by
    funext k k'
    rw [e, e]
  unfold Host.sort2
  rw [dif_pos (show 1 < (shape2 R N).rank from Nat.one_lt_two)]
  constructor
  · exact (congrArg x (e _)).trans (congrArg (fun B => x (ix2 r (sortedFrom B t))) eR)
  · exact (congrArg y (e _)).trans (congrArg (fun B => y (ix2 r (sortedFrom B t))) eR)

/-- A row's value spread over its columns. -/
theorem spread_row {α : Type} (hR : R ≠ 1) (x : (shape1 R).Idx → α) (h1 : (shape1 R).BroadcastsInDim (shape2 R 1) ![0])
    (h2 : (shape2 R 1).BroadcastsInDim (shape2 R N) ![0, 1]) (r : Fin R) (t : Fin N) :
    broadcastInDim (shape2 R N) ![0, 1] h2 (broadcastInDim (shape2 R 1) ![0] h1 x) (ix2 r t) = x (ix1 r) := by
  rw [broadcastInDim_apply ![0, 1] _ _ (ix2 r t) (ix2 r (0 : Fin 1)) (fun a => by
      match a with | ⟨0, _⟩ => exact (if_neg hR).symm | ⟨1, _⟩ => rfl),
    broadcastInDim_apply ![0] _ _ (ix2 r (0 : Fin 1)) (ix1 r) (fun a => by match a with | ⟨0, _⟩ => exact (if_neg hR).symm)]

theorem hostReduceWindowAdd_apply {s t u : Shape} {φ : FTy} (window strides lo hi : Fin s.rank → ℕ) (x : FVec Ideal s φ)
    (init : u.Idx → Ideal φ) (h : s.ReduceWindows window strides lo hi t) (hu : 0 < u.numel) (j : t.Idx) :
    Host.reduceWindowAdd window strides lo hi x init h hu j
      = Ideal.hostReduceWindowAdd window strides lo hi h x (init (Shape.Idx.first hu)) j := rfl

/-! Operations over any shape, at an index. -/

section At

variable {s t u : Shape} (x y : FVec Ideal s .f32) (c : IVec s 1) (j : s.Idx)

theorem const_at (b : BitVec 32) : (constant (F := Ideal) s .f32 b j : EReal) = Ideal.ofBits .f32 b := rfl
theorem lt_at : cmpf .olt x y j = BitVec.ofBool (decide ((x j : EReal) < (y j : EReal))) := rfl
theorem ge_at : cmpf .oge x y j = BitVec.ofBool (decide ((y j : EReal) ≤ (x j : EReal))) := rfl
theorem select_at : (select c x y j : EReal) = if c j = 1#1 then (x j : EReal) else (y j : EReal) := rfl
theorem neg_at : (Host.negf x j : EReal) = -(x j : EReal) := rfl
theorem exp_at : (Host.exp x j : EReal) = Ideal.exp (x j : EReal) := rfl
theorem log_at : (Host.log x j : EReal) = Ideal.log (x j : EReal) := rfl
theorem sub_at : (subf x y j : EReal) = (x j : EReal) - (y j : EReal) := rfl
theorem mul_at : (mulf x y j : EReal) = (x j : EReal) * (y j : EReal) := rfl
theorem max_at : (maximumf x y j : EReal) = max (x j : EReal) (y j : EReal) := rfl
theorem toFloat_at : (uitofp (F := Ideal) .f32 c j : EReal) = (((c j).toNat : ℝ) : EReal) := rfl
theorem reduceMax_at {axes : List (Fin s.rank)} (v : u.Idx → Ideal .f32) (h : s.ReducesTo axes t) (hu : 0 < u.numel) (i : t.Idx) :
    Host.reduce (FloatOps.maximumf (F := Ideal)) x v h hu i = Host.reduce (max : EReal → EReal → EReal) x v h hu i := rfl
theorem reduceMin_at {axes : List (Fin s.rank)} (v : u.Idx → Ideal .f32) (h : s.ReducesTo axes t) (hu : 0 < u.numel) (i : t.Idx) :
    Host.reduce (FloatOps.minimumf (F := Ideal)) x v h hu i = Host.reduce (min : EReal → EReal → EReal) x v h hu i := rfl

end At

theorem ofBool_iff (p : Prop) [Decidable p] : BitVec.ofBool (decide p) = 1#1 ↔ p := by by_cases h : p <;> simp [h]

/-- The index of a row with the column put back. -/
theorem lift_row (h : (shape2 R N).Reduces [1] (shape1 R)) (r : Fin R) (k : Fin N) : h.lift (ix1 r) k = ix2 r k := by
  funext a
  match a with
  | ⟨0, _⟩ => exact Fin.ext rfl
  | ⟨1, _⟩ => exact Fin.ext rfl

theorem rowSum_apply (h' : (shape2 R N).ReducesTo [1] (shape1 R)) (h : (shape2 R N).Reduces [1] (shape1 R))
    (x : (shape2 R N).Idx → EReal) (r : Fin R) :
    Ideal.hostReduceAdd h' x 0 (ix1 r) = ∑ k : Fin N, x (ix2 r k) := by
  rw [Ideal.hostReduceAdd_single h' h, zero_add]
  exact Finset.sum_congr rfl fun k _ => congrArg x (lift_row h r k)

theorem rowFold_apply (op : EReal → EReal → EReal) [Std.Commutative op] [Std.Associative op] {u : Shape}
    (h' : (shape2 R N).ReducesTo [1] (shape1 R)) (h : (shape2 R N).Reduces [1] (shape1 R)) (hu : 0 < u.numel)
    (x : (shape2 R N).Idx → EReal) (init : u.Idx → EReal) (r : Fin R) :
    Host.reduce op x init h' hu (ix1 r) = (Finset.univ : Finset (Fin N)).fold op (init (Shape.Idx.first hu)) (fun k => x (ix2 r k)) := by
  rw [Host.reduce_eq_fold_single op x init h' h hu]
  exact Finset.fold_congr fun k _ => congrArg x (lift_row h r k)

/-- The greatest of some reals and bottoms, not all bottoms, is a real. -/
theorem fold_max_real (f : Fin N → EReal) (hf : ∀ k, f k < ⊤) (k : Fin N) (hk : ⊥ < f k) :
    ∃ M : ℝ, (Finset.univ : Finset (Fin N)).fold max (⊥ : EReal) f = (M : EReal) := by
  refine ⟨_, (EReal.coe_toReal ?_ ?_).symm⟩
  · exact (((Finset.fold_max_lt (⊤ : EReal)).2 ⟨bot_lt_top, fun k _ => hf k⟩)).ne
  · exact ((Finset.lt_fold_max (⊥ : EReal)).2 (Or.inr ⟨k, Finset.mem_univ _, hk⟩)).ne'

end Cert.Proof

end
-- ==== Proof.RefVal.lean ====
/- What the reference writes, read index by index over the extended reals: the softmax of a row, the row sorted by falling
   rank with its running sums, the least rank kept, and the logarithm of what is kept, renormalised. -/
module

public import proofs.«01_k».proof.Proof.Keep
public import proofs.«01_k».proof.Proof.Scan
public import proofs.«01_k».proof.Proof.Gen.ReferenceIdeal.Run

@[expose] public section

noncomputable section

namespace Cert.Proof

open Cert.ReferenceIdeal Cert.ReferenceIdeal.Gen
open Idealize.ShloMosaic Idealize.ShloMosaic.ValueIdx Idealize.ShloMosaic.Routing

/-! The reference's stages, as functions of the words. -/

/-- A row's value at every column, and one word's float at every index. -/
def spread (x : FVec Ideal S32 .f32) : FVec Ideal S32x1000000 .f32 :=
  broadcastInDim S32x1000000 ![0, 1] bcast_S32x1_S32x1000000_0_1 (broadcastInDim S32x1 ![0] bcast_S32_S32x1_0 x)
def splat (b : BitVec 32) : FVec Ideal S32x1000000 .f32 :=
  broadcastInDim S32x1000000 ![] bcast_S_S32x1000000 (constant S_ .f32 b)
def rowSum (x : FVec Ideal S32x1000000 .f32) : FVec Ideal S32 .f32 :=
  Host.reduceAdd x (constant S_ .f32 0x00000000#32) reducesTo_S32x1000000_S32_d1 h_S_

variable (w : IVec S32x1000000 32)

def rLogit : FVec Ideal S32x1000000 .f32 := Host.divf (bitcastToFloat (F := Ideal) .f32 w) (splat 0x3F800000#32)
def rRank : FVec Ideal S32x1000000 .f32 :=
  bitcastToFloat (F := Ideal) .f32 (andi w (broadcastInDim S32x1000000 ![] bcast_S_S32x1000000 (constantI S_ 32 4294967040#32)))
def rMax : FVec Ideal S32 .f32 :=
  maximumf (broadcastInDim S32 ![] bcast_S_S32 (constant S_ .f32 0xFF800000#32))
    (Host.reduce FloatOps.maximumf (rLogit w) (constant S_ .f32 0xFF800000#32) reducesTo_S32x1000000_S32_d1 h_S_)
def rExp : FVec Ideal S32x1000000 .f32 := Host.exp (subf (rLogit w) (spread (rMax w)))
def rProb : FVec Ideal S32x1000000 .f32 := Host.divf (rExp w) (spread (rowSum (rExp w)))
def rSort : FVec Ideal S32x1000000 .f32 × FVec Ideal S32x1000000 .f32 :=
  Host.sort2 S32x1000000 1 comparator_f32_f32_d1 (Host.negf (rRank w)) (rProb w)
def rCum : FVec Ideal S32x1000000 .f32 :=
  Host.reduceWindowAdd ![1, 1000000] ![1, 1] ![0, 999999] ![0, 0] (rSort w).2
    (broadcastInDim S_ ![] bcast_S_S_ (constant S_ .f32 0x00000000#32))
    reduceWindows_S32x1000000_S32x1000000_w1s1p0_0_w1000000s1p999999_0 h_S_
def rMask : IVec S32x1000000 1 :=
  concatenate S32x1000000 1 [⟨S32x1, (broadcastInDim S32x1 ![] bcast_S_S32x1 (constantI S_ 1 1#1))⟩,
    ⟨S32x999999, (extractStridedSlice S32x999999 ![0, 0] (cmpf .olt (rCum w) (splat 0x3F666666#32)) slices_S32x1000000_S32x999999_0_0)⟩]
    concatenates_S32x1_S32x999999_S32x1000000_d1
def rCut : FVec Ideal S32 .f32 :=
  Host.reduce FloatOps.minimumf (select (rMask w) (Host.negf (rSort w).1) (splat 0x7F800000#32)) (constant S_ .f32 0x7F800000#32)
    reducesTo_S32x1000000_S32_d1 h_S_
def rKeep : IVec S32x1000000 1 := cmpf .oge (rRank w) (spread (rCut w))
def rMasked : FVec Ideal S32x1000000 .f32 := mulf (rProb w) (uitofp (F := Ideal) .f32 (rKeep w))
def rNorm : FVec Ideal S32x1000000 .f32 := Host.divf (rMasked w) (spread (rowSum (rMasked w)))
def rOut : FVec Ideal S32x1000000 .f32 :=
  select (rKeep w) (Host.log (select (rKeep w) (rNorm w) (splat 0x3F800000#32))) (splat 0xFF800000#32)

/-! Each stage at an index. -/

variable (j : S32x1000000.Idx) (i : S32.Idx)

theorem splat_at (b : BitVec 32) : (splat b j : EReal) = Ideal.ofBits .f32 b := by
  unfold splat
  rw [broadcastInDim_scalar_apply, const_at]

theorem rLogit_at : (rLogit w j : EReal) = Ideal.div (Ideal.ofBits .f32 (w j)) (Ideal.ofBits .f32 0x3F800000#32) := by
  unfold rLogit
  rw [hostDivf_apply, splat_at]
  rfl

theorem rRank_at : (rRank w j : EReal) = Ideal.ofBits .f32 (w j &&& 0xFFFFFF00#32) := rfl

theorem rMax_at : (rMax w i : EReal) = max (Ideal.ofBits .f32 0xFF800000#32) (Host.reduce (max : EReal → EReal → EReal) (rLogit w)
    (constant (F := Ideal) S_ .f32 0xFF800000#32) reducesTo_S32x1000000_S32_d1 h_S_ i) := by
  unfold rMax
  rw [max_at, broadcastInDim_scalar_apply, const_at, reduceMax_at]

theorem rExp_at : (rExp w j : EReal) = Ideal.exp ((rLogit w j : EReal) - (spread (rMax w) j : EReal)) := by
  unfold rExp
  rw [exp_at, sub_at]

theorem rProb_at : (rProb w j : EReal) = Ideal.div (rExp w j : EReal) (spread (rowSum (rExp w)) j : EReal) := by
  unfold rProb
  rw [hostDivf_apply]

theorem rowSum_at (x : FVec Ideal S32x1000000 .f32) : (rowSum x i : EReal)
    = Ideal.hostReduceAdd reducesTo_S32x1000000_S32_d1 x (Ideal.ofBits .f32 0x00000000#32) i := by
  unfold rowSum
  rw [hostReduceAdd_apply, const_at]

theorem rCum_at : (rCum w j : EReal) = Ideal.hostReduceWindowAdd ![1, 1000000] ![1, 1] ![0, 999999] ![0, 0]
    reduceWindows_S32x1000000_S32x1000000_w1s1p0_0_w1000000s1p999999_0 (rSort w).2 (Ideal.ofBits .f32 0x00000000#32) j := by
  unfold rCum
  rw [hostReduceWindowAdd_apply, broadcastInDim_scalar_apply, const_at]

theorem below_at : cmpf .olt (rCum w) (splat 0x3F666666#32) j
    = BitVec.ofBool (decide ((rCum w j : EReal) < Ideal.ofBits .f32 0x3F666666#32)) := by
  rw [lt_at, splat_at]

theorem rCut_at : (rCut w i : EReal) = Host.reduce (min : EReal → EReal → EReal)
    (select (rMask w) (Host.negf (rSort w).1) (splat 0x7F800000#32)) (constant (F := Ideal) S_ .f32 0x7F800000#32)
    reducesTo_S32x1000000_S32_d1 h_S_ i := by
  unfold rCut
  rw [reduceMin_at]

theorem cand_at : (select (rMask w) (Host.negf (rSort w).1) (splat 0x7F800000#32) j : EReal)
    = if rMask w j = 1#1 then -((rSort w).1 j : EReal) else Ideal.ofBits .f32 0x7F800000#32 := by
  rw [select_at, neg_at, splat_at]

theorem rKeep_at : rKeep w j = BitVec.ofBool (decide ((spread (rCut w) j : EReal) ≤ (rRank w j : EReal))) := by
  unfold rKeep
  rw [ge_at]

theorem rMasked_at : (rMasked w j : EReal) = (rProb w j : EReal) * (((rKeep w j).toNat : ℝ) : EReal) := by
  unfold rMasked
  rw [mul_at, toFloat_at]

theorem rNorm_at : (rNorm w j : EReal) = Ideal.div (rMasked w j : EReal) (spread (rowSum (rMasked w)) j : EReal) := by
  unfold rNorm
  rw [hostDivf_apply]

theorem rOut_at : (rOut w j : EReal) = if rKeep w j = 1#1
    then Ideal.log (if rKeep w j = 1#1 then (rNorm w j : EReal) else Ideal.ofBits .f32 0x3F800000#32)
    else Ideal.ofBits .f32 0xFF800000#32 := by
  unfold rOut
  rw [select_at, log_at, select_at, splat_at, splat_at]

omit j i

/-! Reading the stages at one row. -/

theorem ofBits_top : Ideal.ofBits .f32 0x7F800000#32 = ⊤ := by simp [Ideal.ofBits, Ideal.ieee]

/-- Reals add up among the extended reals as they do among themselves. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem div_real (x y : ℝ) (hy : y ≠ 0) : Ideal.div (x : EReal) (y : EReal) = ((x / y : ℝ) : EReal) := by
  rw [Ideal.div_coe hy, ← EReal.coe_mul, mul_one_div]

theorem spread_apply (x : FVec Ideal S32 .f32) (r : Fin 32) (t : Fin 1000000) : spread x (ix2 r t) = x (ix1 r) :=
  spread_row (by decide) x _ _ r t

theorem reduces_row : (shape2 32 1000000).Reduces [1] (shape1 32) := by decide

/-- Over one nothing changes. -/
theorem div_one' (x : EReal) : Ideal.div x 1 = x := by
  rw [← EReal.coe_one, Ideal.div_coe one_ne_zero, div_one, EReal.coe_one, mul_one]

theorem rowSum_real (x : FVec Ideal S32x1000000 .f32) (r : Fin 32) (f : Fin 1000000 → ℝ)
    (hf : ∀ k, (x (ix2 r k) : EReal) = (f k : EReal)) : (rowSum x (ix1 r) : EReal) = ((∑ k, f k : ℝ) : EReal) := by
  rw [rowSum_at, ofBits_zero]
  refine (rowSum_apply _ reduces_row x r).trans ?_
  rw [← coe_sum]
  exact Finset.sum_congr rfl fun k _ => hf k

/-- The comparator the sort runs orders pairs by their first numbers. -/
theorem comparator_eq (l r : Ideal .f32 × Ideal .f32) :
    comparator_f32_f32_d1 (F := Ideal) l r = BitVec.ofBool (decide ((l.1 : EReal) < (r.1 : EReal))) := by
  have canon : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := fun x => by
    have e1 : Ideal.cmp .une x x = 0#1 := by simp [Ideal.cmp]
    rw [e1]
    show Scalar.select (Ideal.cmp .oeq x (Ideal.ofBits .f32 0x00000000#32)) (Ideal.ofBits .f32 0x00000000#32) x = x
    rw [ofBits_zero]
    by_cases hx : x = 0
    · subst hx; unfold Scalar.select; split <;> rfl
    · have e2 : Ideal.cmp .oeq x 0 = 0#1 := by simp [Ideal.cmp, hx]
      rw [e2]; rfl
  exact congrArg₂ (Ideal.cmp .olt) (canon l.1) (canon r.1)

/-- Where the sort takes a row's positions from. -/
def perm (r : Fin 32) : Fin 1000000 → Fin 1000000 :=
  sortedFrom fun k k' => comparator_f32_f32_d1 (F := Ideal) (Host.negf (rRank w) (ix2 r k), rProb w (ix2 r k))
    (Host.negf (rRank w) (ix2 r k'), rProb w (ix2 r k')) == 1#1

theorem rSort_fst (r : Fin 32) (t : Fin 1000000) : (rSort w).1 (ix2 r t) = Host.negf (rRank w) (ix2 r (perm w r t)) :=
  (sort2_row comparator_f32_f32_d1 (Host.negf (rRank w)) (rProb w) r t).1

theorem rSort_snd (r : Fin 32) (t : Fin 1000000) : (rSort w).2 (ix2 r t) = rProb w (ix2 r (perm w r t)) :=
  (sort2_row comparator_f32_f32_d1 (Host.negf (rRank w)) (rProb w) r t).2

section Row

variable (r : Fin 32) (u : ℕ → BitVec 32) (hu : ∀ k : Fin 1000000, w (ix2 r k) = u k.val) (hp : ∀ i < 1000000, Ok (u i)) (hz : 0 < total u)

include hu

theorem rLogit_apply (t : Fin 1000000) : (rLogit w (ix2 r t) : EReal) = Ideal.ofBits .f32 (u t.val) := by
  rw [rLogit_at, hu, ofBits_one, div_one']

include hp hz

/-- Some word of the row is plain. -/
theorem exists_plain : ∃ k : Fin 1000000, Plain (u k.val) := by
  by_contra hn
  refine hz.ne' (Finset.sum_eq_zero fun i hi => ?_)
  have hi' := Finset.mem_range.1 hi
  exact wexp_bot ((hp i hi').cases.resolve_left fun h => hn ⟨⟨i, hi'⟩, h⟩)

theorem rMax_real : ∃ M : ℝ, (rMax w (ix1 r) : EReal) = (M : EReal) := by
  obtain ⟨k, hk⟩ := exists_plain w r u hu hp hz
  obtain ⟨M, hM⟩ := fold_max_real (fun k : Fin 1000000 => Ideal.ofBits .f32 (u k.val)) (fun k => by
    rcases (hp _ k.isLt).cases with h | h
    · rw [h.ofBits]; exact EReal.coe_lt_top _
    · rw [h]; exact bot_lt_top) k (by rw [hk.ofBits]; exact EReal.bot_lt_coe _)
  refine ⟨M, ?_⟩
  rw [rMax_at, ofBits_bot, max_eq_right bot_le, ← hM]
  refine (rowFold_apply max _ reduces_row h_S_ (rLogit w) _ r).trans ?_
  exact Finset.fold_congr fun k _ => rLogit_apply w r u hu k

omit hu hp hz in
theorem total_eq : total u = ∑ k : Fin 1000000, wexp (u k.val) := (Fin.sum_univ_eq_sum_range (fun i => wexp (u i)) 1000000).symm

/-- The softmax: each exponential over their sum. -/
theorem rProb_apply (t : Fin 1000000) : (rProb w (ix2 r t) : EReal) = ((wexp (u t.val) / total u : ℝ) : EReal) := by
  obtain ⟨M, hM⟩ := rMax_real w r u hu hp hz
  have hE : ∀ k : Fin 1000000, (rExp w (ix2 r k) : EReal) = ((wexp (u k.val) / Real.exp M : ℝ) : EReal) := fun k => by
    rw [rExp_at, rLogit_apply w r u hu, spread_apply, hM]
    rcases (hp _ k.isLt).cases with h | h
    · rw [h.ofBits, h.wexp_eq, ← EReal.coe_sub, Ideal.exp_coe, Real.exp_sub]
    · rw [h, wexp_bot h, EReal.bot_sub, Ideal.exp_bot, zero_div, EReal.coe_zero]
  have hM' := Real.exp_pos M
  rw [rProb_at, hE, spread_apply, rowSum_real _ r _ hE, ← Finset.sum_div, ← total_eq u, div_real _ _ (div_pos hz hM').ne',
    div_div_div_cancel_right₀ hM'.ne']

omit hp hz in
theorem rRank_apply (t : Fin 1000000) : (rRank w (ix2 r t) : EReal) = Ideal.ofBits .f32 (u t.val &&& 0xFFFFFF00#32) := by
  rw [rRank_at, hu]

omit hp hz in
theorem rank_lt_iff (t k : Fin 1000000) (ht : Plain (u t.val)) (hk : Plain (u k.val)) :
    (rRank w (ix2 r t) : EReal) < (rRank w (ix2 r k) : EReal) ↔ top (u t.val) < top (u k.val) := by
  rw [rRank_apply w r u hu, rRank_apply w r u hu, ht.rank_lt_iff hk]

omit hu hp hz in
/-- The sort puts the words by falling rank. -/
theorem perm_sorted (a b : Fin 1000000) (hab : a < b) :
    (rRank w (ix2 r (perm w r b)) : EReal) ≤ (rRank w (ix2 r (perm w r a)) : EReal) := by
  have hR : (fun k k' => comparator_f32_f32_d1 (F := Ideal) (Host.negf (rRank w) (ix2 r k), rProb w (ix2 r k))
      (Host.negf (rRank w) (ix2 r k'), rProb w (ix2 r k')) == 1#1)
        = fun k k' : Fin 1000000 => decide ((rRank w (ix2 r k') : EReal) < (rRank w (ix2 r k) : EReal)) := by
    funext k k'
    have e : decide ((Host.negf (rRank w) (ix2 r k) : EReal) < (Host.negf (rRank w) (ix2 r k') : EReal))
        = decide ((rRank w (ix2 r k') : EReal) < (rRank w (ix2 r k) : EReal)) := decide_eq_decide.mpr (by
      rw [neg_at, neg_at, EReal.neg_lt_neg_iff])
    rw [comparator_eq, e]
    cases decide ((rRank w (ix2 r k') : EReal) < (rRank w (ix2 r k) : EReal)) <;> rfl
  unfold perm
  rw [hR]
  have := sortedFrom_noInversion (fun k k' : Fin 1000000 => decide ((rRank w (ix2 r k') : EReal) < (rRank w (ix2 r k) : EReal)))
    (fun k k' : Fin 1000000 => decide ((rRank w (ix2 r k') : EReal) < (rRank w (ix2 r k) : EReal)))
    (fun a b h => by simp only [decide_eq_true_eq, decide_eq_false_iff_not] at h ⊢; exact h.not_gt) (fun _ _ h => h)
    (fun a b c h h' => by simp only [decide_eq_false_iff_not, not_lt] at h h' ⊢; exact h.trans h') a b hab
  simpa only [decide_eq_false_iff_not, not_lt] using this

/-- The running sum, the mass of the positions up to and with this one over the whole. -/
theorem rCum_apply (t : Fin 1000000) : (rCum w (ix2 r t) : EReal)
    = ((∑ l ∈ Finset.univ.filter (fun l : Fin 1000000 => l.val < t.val + 1), wexp (u (perm w r l).val) / total u : ℝ) : EReal) := by
  rw [rCum_at, ofBits_zero]
  refine (cumsum_apply (m := 999999) rfl (rSort w).2 reduceWindows_S32x1000000_S32x1000000_w1s1p0_0_w1000000s1p999999_0 r t).trans ?_
  rw [← coe_sum]
  exact Finset.sum_congr rfl fun l _ => (rSort_snd w r l).trans (rProb_apply w r u hu hp hz _)

/-- A position is unmasked while the mass before it is below the share. -/
theorem rMask_iff (t : Fin 1000000) :
    rMask w (ix2 r t) = 1#1 ↔ ∑ l ∈ Finset.univ.filter (· < t), wexp (u (perm w r l).val) < share * total u := by
  have ht := t.isLt
  have e : rMask w (ix2 r t) = if t.val = 0 then 1#1
      else cmpf .olt (rCum w) (splat 0x3F666666#32) (ix2 r ⟨t.val - 1, by omega⟩) :=
    shift_apply (m := 999999) rfl (cmpf .olt (rCum w) (splat 0x3F666666#32)) (broadcastInDim S32x1 ![] bcast_S_S32x1 (constantI S_ 1 1#1))
      slices_S32x1000000_S32x999999_0_0 concatenates_S32x1_S32x999999_S32x1000000_d1 r t
  rw [e]
  by_cases h0 : t.val = 0
  · rw [if_pos h0]
    refine iff_of_true rfl ?_
    rw [Finset.sum_eq_zero]
    · exact mul_pos share_pos hz
    · intro l hl
      have := Fin.lt_def.1 (Finset.mem_filter.1 hl).2
      omega
  · rw [if_neg h0, below_at, ofBool_iff, rCum_apply w r u hu hp hz, ofBits_share, EReal.coe_lt_coe_iff, ← Finset.sum_div, div_lt_iff₀ hz]
    have ef : (Finset.univ.filter fun l : Fin 1000000 => l.val < t.val - 1 + 1) = Finset.univ.filter (· < t) := by
      ext l; simp only [Finset.mem_filter, Finset.mem_univ, true_and, Fin.lt_def]; omega
    rw [ef]

/-- The mass ranked strictly above a plain word. -/
theorem mass_above (t : Fin 1000000) (ht : Plain (u t.val)) :
    ∑ j ∈ Finset.univ.filter (fun j : Fin 1000000 => (rRank w (ix2 r t) : EReal) < (rRank w (ix2 r j) : EReal)), wexp (u j.val)
      = mass u (top (u t.val) + 1) := by
  rw [Finset.sum_filter]
  refine (Finset.sum_congr rfl fun j _ => ?_).trans
    (Fin.sum_univ_eq_sum_range (fun i => if top (u t.val) < top (u i) then wexp (u i) else 0) 1000000)
  rcases (hp _ j.isLt).cases with h | h
  · exact if_congr (rank_lt_iff w r u hu t j ht h) rfl rfl
  · rw [wexp_bot h, ite_self, ite_self]

/-- A plain word is kept when the mass ranked strictly above it is below the share. -/
theorem rKeep_iff (T : ℕ) (hT : IsCut u T) (t : Fin 1000000) (ht : Plain (u t.val)) : rKeep w (ix2 r t) = 1#1 ↔ T ≤ top (u t.val) := by
  have h1 : rKeep w (ix2 r t) = 1#1 ↔ (rCut w (ix1 r) : EReal) ≤ (rRank w (ix2 r t) : EReal) := by
    rw [rKeep_at, ofBool_iff, spread_apply]
  have h2 : (rCut w (ix1 r) : EReal) ≤ (rRank w (ix2 r t) : EReal)
      ↔ ∃ k, ∑ l ∈ Finset.univ.filter (· < k), wexp (u (perm w r l).val) < share * total u
        ∧ (rRank w (ix2 r (perm w r k)) : EReal) ≤ (rRank w (ix2 r t) : EReal) := by
    have e : (rCut w (ix1 r) : EReal) = (Finset.univ : Finset (Fin 1000000)).fold min (⊤ : EReal)
        (fun k => if rMask w (ix2 r k) = 1#1 then (rRank w (ix2 r (perm w r k)) : EReal) else ⊤) := by
      rw [rCut_at]
      refine (rowFold_apply min _ reduces_row h_S_ _ _ r).trans (Finset.fold_congr fun k _ => ?_)
      rw [cand_at, ofBits_top, rSort_fst, neg_at, neg_neg]
    rw [e, Finset.fold_min_le]
    have hne : ¬(⊤ : EReal) ≤ (rRank w (ix2 r t) : EReal) := by
      rw [rRank_apply w r u hu, ht.drop.ofBits, not_le]
      exact EReal.coe_lt_top _
    rw [or_iff_right hne]
    refine exists_congr fun k => ?_
    rw [← rMask_iff w r u hu hp hz]
    by_cases h : rMask w (ix2 r k) = 1#1
    · simp [h]
    · simp only [h, if_false, false_and, iff_false]
      exact fun e => hne e.2
  rw [h1, h2, kept_iff (fun k : Fin 1000000 => (rRank w (ix2 r k) : EReal)) (fun k => wexp (u k.val)) (fun k => wexp_nonneg _) (perm w r)
    (sortedFrom_injective _) (sortedFrom_surjective _) (perm_sorted w r), mass_above w r u hu hp hz t ht]
  constructor
  · intro h
    by_contra hlt
    have := mass_antitone u (show top (u t.val) + 1 ≤ T by omega)
    linarith [hT.2.2]
  · intro h
    exact lt_of_le_of_lt (mass_antitone u (show T + 1 ≤ top (u t.val) + 1 by omega)) hT.2.1

/-- The probabilities of what is kept. -/
theorem rMasked_apply (T : ℕ) (hT : IsCut u T) (k : Fin 1000000) : (rMasked w (ix2 r k) : EReal)
    = (((if T ≤ top (u k.val) then wexp (u k.val) else 0) / total u : ℝ) : EReal) := by
  rw [rMasked_at, rProb_apply w r u hu hp hz, ← EReal.coe_mul]
  congr 1
  rcases (hp _ k.isLt).cases with hk | hk
  · have hk := rKeep_iff w r u hu hp hz T hT k hk
    by_cases h : T ≤ top (u k.val)
    · rw [hk.mpr h, if_pos h]; simp
    · have e : rKeep w (ix2 r k) = 0#1 := by
        have := mt hk.mp h
        generalize rKeep w (ix2 r k) = b at this
        revert b; decide
      rw [e, if_neg h]; simp
  · rw [wexp_bot hk, ite_self, zero_div, zero_mul]

theorem rowSum_masked (T : ℕ) (hT : IsCut u T) : (rowSum (rMasked w) (ix1 r) : EReal) = ((mass u T / total u : ℝ) : EReal) := by
  rw [rowSum_real _ r _ (rMasked_apply w r u hu hp hz T hT), ← Finset.sum_div]
  exact congrArg (fun x : ℝ => ((x / total u : ℝ) : EReal))
    (Fin.sum_univ_eq_sum_range (fun i => if T ≤ top (u i) then wexp (u i) else 0) 1000000)

/-- The reference's result at a plain word: what is kept, less the logarithm of the kept mass; the rest minus infinity. -/
theorem rOut_apply (T : ℕ) (hT : IsCut u T) (t : Fin 1000000) (ht : Plain (u t.val)) :
    (rOut w (ix2 r t) : EReal) = if T ≤ top (u t.val) then ((val (u t.val) - Real.log (mass u T) : ℝ) : EReal) else ⊥ := by
  have hS : 0 < mass u T := lt_of_lt_of_le (mul_pos share_pos hz) hT.2.2
  have hk := rKeep_iff w r u hu hp hz T hT t ht
  rw [rOut_at, ofBits_bot]
  by_cases h : T ≤ top (u t.val)
  · have hP := ht.wexp_pos
    rw [if_pos (hk.mpr h), if_pos (hk.mpr h), if_pos h, rNorm_at, spread_apply, rowSum_masked w r u hu hp hz T hT,
      rMasked_apply w r u hu hp hz T hT, if_pos h, div_real _ _ (div_pos hS hz).ne', div_div_div_cancel_right₀ hz.ne', Ideal.log_coe,
      if_neg (not_le.2 (div_pos hP hS)), Real.log_div hP.ne' hS.ne', ht.wexp_eq, Real.log_exp]
  · rw [if_neg (mt hk.mp h), if_neg h]

/-- At a word that stands for the bottom the reference writes the bottom, the row's mass being some, -/
theorem rOut_bot (T : ℕ) (hT : IsCut u T) (t : Fin 1000000) (ht : Ideal.ofBits .f32 (u t.val) = ⊥) : (rOut w (ix2 r t) : EReal) = ⊥ := by
  have hS : 0 < mass u T := lt_of_lt_of_le (mul_pos share_pos hz) hT.2.2
  rw [rOut_at, ofBits_bot]
  by_cases h : rKeep w (ix2 r t) = 1#1
  · rw [if_pos h, if_pos h, rNorm_at, spread_apply, rowSum_masked w r u hu hp hz T hT, rMasked_apply w r u hu hp hz T hT, wexp_bot ht,
      ite_self, div_real _ _ (div_pos hS hz).ne', zero_div, zero_div, Ideal.log_coe, if_pos le_rfl]
  · rw [if_neg h]

omit hp hz in
/-- and so it does all along a row whose words all stand for the bottom: the softmax has nothing over nothing there. -/
theorem rOut_bots (hb : ∀ k : Fin 1000000, Ideal.ofBits .f32 (u k.val) = ⊥) (t : Fin 1000000) : (rOut w (ix2 r t) : EReal) = ⊥ := by
  have hE : ∀ k : Fin 1000000, (rExp w (ix2 r k) : EReal) = ((0 : ℝ) : EReal) := fun k => by
    rw [rExp_at, rLogit_apply w r u hu, hb, EReal.bot_sub, Ideal.exp_bot, EReal.coe_zero]
  have hP : ∀ k : Fin 1000000, (rProb w (ix2 r k) : EReal) = ⊥ := fun k => by
    rw [rProb_at, spread_apply, rowSum_real _ r _ hE, hE, Finset.sum_const_zero, EReal.coe_zero]
    simp [Ideal.div]
  rw [rOut_at, ofBits_bot]
  by_cases h : rKeep w (ix2 r t) = 1#1
  · have hM : (rMasked w (ix2 r t) : EReal) = ⊥ := by
      rw [rMasked_at, hP, h]; simp
    have hS : (rowSum (rMasked w) (ix1 r) : EReal) = ⊥ := by
      rw [rowSum_at, ofBits_zero]
      refine (rowSum_apply _ reduces_row (rMasked w) r).trans ?_
      rw [← Finset.add_sum_erase _ _ (Finset.mem_univ t), hM, EReal.bot_add]
    rw [if_pos h, if_pos h, rNorm_at, spread_apply, hS, hM]
    have e : Ideal.div (⊥ : EReal) ⊥ = ((0 : ℝ) : EReal) := by simp [Ideal.div]
    rw [e, Ideal.log_coe, if_pos le_rfl]
  · rw [if_neg h]

end Row

end Cert.Proof

end
-- ==== Proof.RefRun.lean ====
/- The reference's run, its result named by the stages. -/
module

public import proofs.«01_k».proof.Proof.RefVal

@[expose] public section

noncomputable section

namespace Cert.Proof

open Cert.ReferenceIdeal Cert.ReferenceIdeal.Gen
open Idealize.ShloMosaic Idealize.SL.Sem Idealize.ShloMosaic.TcCoe

theorem result_eq (m : (ℓ : Loc nD τ sig) → Buf (Elt Ideal) ℓ) (c : Dev nD) :
    Cert.ReferenceIdeal.Value.res_main_v40 m c = rOut (m ((c.tc : Thread nD τ).loc main_arg0)) := by
  unfold Cert.ReferenceIdeal.Value.res_main_v40 rOut rNorm rMasked rKeep rCut rMask rCum rSort rProb rExp rMax rRank rLogit rowSum spread splat
  rfl

end Cert.Proof

end
-- ==== Proof.Equal.lean ====
/- The kernel and the reference write the same: at every row and column, the word's value less the logarithm of the row's
   kept mass where the word is kept, minus infinity where it is not. -/
module

public import proofs.«01_k».proof.Defs
public import proofs.«01_k».proof.Proof.Ends
public import proofs.«01_k».proof.Proof.Meets
public import proofs.«01_k».proof.Proof.RefRun

@[expose] public section

noncomputable section

namespace Cert.Proof

open Idealize.ShloMosaic hiding ix1 ix2 ix3 eq_ix2
open Idealize.ShloMosaic.TcCoe
open Idealize.ShloMosaic.ValueIdx
open Idealize.SL Idealize.SL.Sem

/-- One row's words decide both results of the row. -/
theorem row_same (m : (ℓ : Loc Cert.KernelIdeal.nD Cert.KernelIdeal.τ Cert.KernelIdeal.sig) → Buf (Elt Ideal) ℓ) (d : Dev Cert.KernelIdeal.nD)
    (h : ∀ (r : Fin 32) (k : Fin 1000000), Ok (arg m d (ix2 r k))) (r : Fin 32) (t : Fin 1000000) :
    (V5 m d (dev Cert.KernelIdeal.main_v8) (ix2 r t) : EReal) = (rOut (arg m d) (ix2 r t) : EReal) := by
  have hw : ∀ k : Fin 1000000, words (flat (arg m d)) r.val k.val = arg m d (ix2 r k) := words_flat (arg m d) r
  have hp : ∀ i < 1000000, Ok (words (flat (arg m d)) r.val i) := fun i hi => by
    rw [hw ⟨i, hi⟩]; exact h r ⟨i, hi⟩
  by_cases hb : ∃ k : Fin 1000000, Plain (words (flat (arg m d)) r.val k.val)
  · obtain ⟨k, hk⟩ := hb
    have hz := total_pos _ k.isLt hk
    obtain ⟨T, hT, hk, hs⟩ := out_eq (words (flat (arg m d)) r.val) hp hz
    have hpos : 0 < mass (words (flat (arg m d)) r.val) T := lt_of_lt_of_le (mul_pos share_pos hz) hT.2.2
    rcases (h r t).cases with ht | ht
    · rw [V5_apply, hk, cell_eq ht hT.1 hs hpos, rOut_apply (arg m d) r (words (flat (arg m d)) r.val) (fun k => (hw k).symm) hp hz T hT t
        (by rw [hw t]; exact ht), hw t]
    · rw [V5_apply, cell_bot ht, rOut_bot (arg m d) r (words (flat (arg m d)) r.val) (fun k => (hw k).symm) hp hz T hT t
        (by rw [hw t]; exact ht)]
  · have hbot : ∀ k : Fin 1000000, Ideal.ofBits .f32 (words (flat (arg m d)) r.val k.val) = ⊥ := fun k =>
      (hp _ k.isLt).cases.resolve_left fun e => hb ⟨k, e⟩
    rw [V5_apply, cell_bot (by rw [← hw t]; exact hbot t), rOut_bots (arg m d) r _ (fun k => (hw k).symm) hbot t]

theorem same (m : (ℓ : Loc Cert.KernelIdeal.nD Cert.KernelIdeal.τ Cert.KernelIdeal.sig) → Buf (Elt Ideal) ℓ) (d : Dev Cert.KernelIdeal.nD)
    (h : ∀ (r : Fin 32) (k : Fin 1000000), Ok (arg m d (ix2 r k))) :
    rOut (arg m d) = V5 m d (dev Cert.KernelIdeal.main_v8) := by
  funext j
  obtain ⟨r, t, rfl⟩ : ∃ (r : Fin 32) (t : Fin 1000000), j = ix2 r t := ⟨j 0, j 1, eq_ix2 j⟩
  exact (row_same m d h r t).symm

theorem equal [Cert.Pre_plain_words.Facts] : Cert.algebraic_KernelIdeal_ReferenceIdeal_pre_plain_words := fun m g m' g' hpre hag =>
  ⟨fun c => V5 m c (dev Cert.KernelIdeal.main_v8),
    (θ_run (Cert.KernelIdeal.defs (F := Ideal)) _ _).mono (fun _ h c => ⟨(h.1 c).2, (h.1 c).1⟩) (run_any (F := Ideal) m g),
    (θ_run Cert.ReferenceIdeal.defs _ _).mono
      (fun _ h c => ⟨(h c).1.trans ((result_eq m' c).trans ((congrArg rOut (hag c)).trans
        (same m c fun r k => ok_of_pre (arg m c) (hpre c) (ix2 r k)))), (h c).2⟩)
      (Cert.ReferenceIdeal.Value.run m' g')⟩

end Cert.Proof

end
-- ==== Proof.lean ====
module

public import proofs.«01_k».proof.Defs
public import proofs.«01_k».proof.Proof.Equal

@[expose] public section

noncomputable section

namespace Cert.Proof

open Idealize.ShloMosaic Idealize.SL.Sem

theorem frame_ReferenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

theorem claim : Cert.Claim :=
  ⟨Cert.Kernel.Gen.facts, Cert.KernelIdeal.Gen.facts, Cert.ReferenceIdeal.Gen.facts, facts_pre, frame_Kernel, frame_KernelIdeal,
    fun m ρ _ => frame_KernelIdeal m ρ trivial, frame_ReferenceIdeal, fun m ρ _ => frame_ReferenceIdeal m ρ trivial, trivial,
    @equal facts_pre⟩

end Cert.Proof

end
